-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 64]⟩ ⟨2, ![2048, 2048]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 2048]⟩ ⟨2, ![2048, 2048]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![2048, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S64x2048 : Shape := ⟨2, ![64, 2048]⟩
abbrev S2048x2048 : Shape := ⟨2, ![2048, 2048]⟩
abbrev S3x512x1024 : Shape := ⟨3, ![3, 512, 1024]⟩
abbrev S512x1024 : Shape := ⟨2, ![512, 1024]⟩
abbrev S7x64x1024 : Shape := ⟨3, ![7, 64, 1024]⟩
abbrev S6 : Shape := ⟨1, ![6]⟩
abbrev S14 : Shape := ⟨1, ![14]⟩
abbrev S_ : Shape := ⟨0, ![]⟩
abbrev S512x64 : Shape := ⟨2, ![512, 64]⟩
abbrev S512x2048 : Shape := ⟨2, ![512, 2048]⟩
abbrev S256x1024 : Shape := ⟨2, ![256, 1024]⟩
abbrev S1x256x1024 : Shape := ⟨3, ![1, 256, 1024]⟩
abbrev S1 : Shape := ⟨1, ![1]⟩
abbrev S32x1024 : Shape := ⟨2, ![32, 1024]⟩
abbrev S1x32x1024 : Shape := ⟨3, ![1, 32, 1024]⟩

abbrev nBuf : Space → Nat
  | .hbm => 3
  | .vmem => 14
  | .smem => 0
  | _ => 0

abbrev bufTy : (tb : Table) → Fin (tcTables nBuf tb) → BufTy
  | .hbm, ⟨0, _⟩ => ⟨S2048x64, .f32⟩
  | .hbm, ⟨1, _⟩ => ⟨S64x2048, .f32⟩
  | .hbm, ⟨2, _⟩ => ⟨S64x2048, .f32⟩
  | .local _ .vmem, ⟨0, _⟩ => ⟨S2048x64, .f32⟩
  | .local _ .vmem, ⟨1, _⟩ => ⟨S64x2048, .f32⟩
  | .local _ .vmem, ⟨2, _⟩ => ⟨S64x2048, .f32⟩
  | .local _ .vmem, ⟨3, _⟩ => ⟨S2048x2048, .f32⟩
  | .local _ .vmem, ⟨4, _⟩ => ⟨S3x512x1024, .bf16⟩
  | .local _ .vmem, ⟨5, _⟩ => ⟨S3x512x1024, .bf16⟩
  | .local _ .vmem, ⟨6, _⟩ => ⟨S3x512x1024, .bf16⟩
  | .local _ .vmem, ⟨7, _⟩ => ⟨S3x512x1024, .bf16⟩
  | .local _ .vmem, ⟨8, _⟩ => ⟨S512x1024, .f32⟩
  | .local _ .vmem, ⟨9, _⟩ => ⟨S512x1024, .f32⟩
  | .local _ .vmem, ⟨10, _⟩ => ⟨S7x64x1024, .bf16⟩
  | .local _ .vmem, ⟨11, _⟩ => ⟨S7x64x1024, .bf16⟩
  | .local _ .vmem, ⟨12, _⟩ => ⟨S7x64x1024, .bf16⟩
  | .local _ .vmem, ⟨13, _⟩ => ⟨S7x64x1024, .bf16⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 1 83 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2 : BitVec 32 := 8#32
  let v7 : BitVec 32 := Scalar.subi v2 c8_i32_2
  let c32_i32_3 : BitVec 32 := 32#32
  let v8 : BitVec 32 := Scalar.addi v7 c32_i32_3
  let c32_i32_4 : BitVec 32 := 32#32
  let v9 : BitVec 32 := Scalar.remsi v8 c32_i32_4
  let c1_i32_12 : BitVec 32 := 1#32
  let v19 : BitVec 32 := Scalar.muli v9 c1_i32_12
  let v20 : BitVec 32 := Scalar.addi c0_i32 v19
  v20.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.addi v2 c8_i32_0
  let c32_i32_1 : BitVec 32 := 32#32
  let v6 : BitVec 32 := Scalar.remsi v5 c32_i32_1
  let c1_i32_14 : BitVec 32 := 1#32
  let v21 : BitVec 32 := Scalar.muli v6 c1_i32_14
  let v22 : BitVec 32 := Scalar.addi c0_i32_15 v21
  v22.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_17 : BitVec 32 := 1#32
  let v23 : BitVec 32 := Scalar.muli v16 c1_i32_17
  let v24 : BitVec 32 := Scalar.addi c0_i32_18 v23
  v24.toNat
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_20 : BitVec 32 := 1#32
  let v25 : BitVec 32 := Scalar.muli v12 c1_i32_20
  let v26 : BitVec 32 := Scalar.addi c0_i32_21 v25
  v26.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10 : BitVec 32 := 8#32
  let v17 : BitVec 32 := Scalar.divsi v2 c8_i32_10
  let c1_i32_22 : BitVec 32 := 1#32
  let v27 : BitVec 32 := Scalar.subi v17 c1_i32_22
  let c4_i32_23 : BitVec 32 := 4#32
  let v28 : BitVec 32 := Scalar.addi v27 c4_i32_23
  let c4_i32_24 : BitVec 32 := 4#32
  let v29 : BitVec 32 := Scalar.remsi v28 c4_i32_24
  let c512_i32 : BitVec 32 := 512#32
  let v32 : BitVec 32 := Scalar.muli v29 c512_i32
  let v33 : Index := Scalar.indexCast v32
  let c0 : Index := 0#32
  ![v33.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10 : BitVec 32 := 8#32
  let v17 : BitVec 32 := Scalar.divsi v2 c8_i32_10
  let c1_i32_22 : BitVec 32 := 1#32
  let v27 : BitVec 32 := Scalar.subi v17 c1_i32_22
  let c4_i32_23 : BitVec 32 := 4#32
  let v28 : BitVec 32 := Scalar.addi v27 c4_i32_23
  let c4_i32_24 : BitVec 32 := 4#32
  let v29 : BitVec 32 := Scalar.remsi v28 c4_i32_24
  let c512_i32_29 : BitVec 32 := 512#32
  let v39 : BitVec 32 := Scalar.muli v29 c512_i32_29
  let v40 : Index := Scalar.indexCast v39
  let c0_30 : Index := 0#32
  ![v40.toNat, 0]
def k0_off3 (d0 : Dev nD) (c0_i32_32 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10 : BitVec 32 := 8#32
  let v17 : BitVec 32 := Scalar.divsi v2 c8_i32_10
  let c1_i32_22 : BitVec 32 := 1#32
  let v27 : BitVec 32 := Scalar.subi v17 c1_i32_22
  let c4_i32_23 : BitVec 32 := 4#32
  let v28 : BitVec 32 := Scalar.addi v27 c4_i32_23
  let c4_i32_24 : BitVec 32 := 4#32
  let v29 : BitVec 32 := Scalar.remsi v28 c4_i32_24
  let c512_i32_31 : BitVec 32 := 512#32
  let v44 : BitVec 32 := Scalar.muli v29 c512_i32_31
  let v45 : BitVec 32 := Scalar.addi v44 c0_i32_32
  let v46 : Index := Scalar.indexCast v45
  let c0_33 : Index := 0#32
  ![v46.toNat, 0]
def k0_dev5 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.addi v2 c8_i32_0
  let c32_i32_1 : BitVec 32 := 32#32
  let v6 : BitVec 32 := Scalar.remsi v5 c32_i32_1
  let c1_i32_41 : BitVec 32 := 1#32
  let v52 : BitVec 32 := Scalar.muli v6 c1_i32_41
  let v53 : BitVec 32 := Scalar.addi c0_i32_42 v52
  v53.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.addi v2 c8_i32_0
  let c32_i32_1 : BitVec 32 := 32#32
  let v6 : BitVec 32 := Scalar.remsi v5 c32_i32_1
  let c1_i32_55 : BitVec 32 := 1#32
  let v70 : BitVec 32 := Scalar.muli v6 c1_i32_55
  let v71 : BitVec 32 := Scalar.addi c0_i32_56 v70
  v71.toNat
def k0_off4 (d0 : Dev nD) (c1_i32_25 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10 : BitVec 32 := 8#32
  let v17 : BitVec 32 := Scalar.divsi v2 c8_i32_10
  let v30 : BitVec 32 := Scalar.addi v17 c1_i32_25
  let c4_i32_26 : BitVec 32 := 4#32
  let v31 : BitVec 32 := Scalar.remsi v30 c4_i32_26
  let c512_i32_61 : BitVec 32 := 512#32
  let v80 : BitVec 32 := Scalar.muli v31 c512_i32_61
  let v81 : Index := Scalar.indexCast v80
  let c0_62 : Index := 0#32
  ![v81.toNat, 0]
def k0_off5 (d0 : Dev nD) (c1_i32_25 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10 : BitVec 32 := 8#32
  let v17 : BitVec 32 := Scalar.divsi v2 c8_i32_10
  let v30 : BitVec 32 := Scalar.addi v17 c1_i32_25
  let c4_i32_26 : BitVec 32 := 4#32
  let v31 : BitVec 32 := Scalar.remsi v30 c4_i32_26
  let c512_i32_66 : BitVec 32 := 512#32
  let v87 : BitVec 32 := Scalar.muli v31 c512_i32_66
  let v88 : Index := Scalar.indexCast v87
  let c0_67 : Index := 0#32
  ![v88.toNat, 0]
def k0_off6 (d0 : Dev nD) (c0_i32_69 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10 : BitVec 32 := 8#32
  let v17 : BitVec 32 := Scalar.divsi v2 c8_i32_10
  let c1_i32_25 : BitVec 32 := 1#32
  let v30 : BitVec 32 := Scalar.addi v17 c1_i32_25
  let c4_i32_26 : BitVec 32 := 4#32
  let v31 : BitVec 32 := Scalar.remsi v30 c4_i32_26
  let c512_i32_68 : BitVec 32 := 512#32
  let v92 : BitVec 32 := Scalar.muli v31 c512_i32_68
  let v93 : BitVec 32 := Scalar.addi v92 c0_i32_69
  let v94 : Index := Scalar.indexCast v93
  let c1024 : Index := 1024#32
  ![v94.toNat, 1024]
def k0_dev7 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2 : BitVec 32 := 8#32
  let v7 : BitVec 32 := Scalar.subi v2 c8_i32_2
  let c32_i32_3 : BitVec 32 := 32#32
  let v8 : BitVec 32 := Scalar.addi v7 c32_i32_3
  let c32_i32_4 : BitVec 32 := 32#32
  let v9 : BitVec 32 := Scalar.remsi v8 c32_i32_4
  let c1_i32_77 : BitVec 32 := 1#32
  let v100 : BitVec 32 := Scalar.muli v9 c1_i32_77
  let v101 : BitVec 32 := Scalar.addi c0_i32_78 v100
  v101.toNat
def k0_dev8 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2 : BitVec 32 := 8#32
  let v7 : BitVec 32 := Scalar.subi v2 c8_i32_2
  let c32_i32_3 : BitVec 32 := 32#32
  let v8 : BitVec 32 := Scalar.addi v7 c32_i32_3
  let c32_i32_4 : BitVec 32 := 32#32
  let v9 : BitVec 32 := Scalar.remsi v8 c32_i32_4
  let c1_i32_93 : BitVec 32 := 1#32
  let v118 : BitVec 32 := Scalar.muli v9 c1_i32_93
  let v119 : BitVec 32 := Scalar.addi c0_i32_94 v118
  v119.toNat
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10 : BitVec 32 := 8#32
  let v17 : BitVec 32 := Scalar.divsi v2 c8_i32_10
  let c512_i32_99 : BitVec 32 := 512#32
  let v128 : BitVec 32 := Scalar.muli v17 c512_i32_99
  let v129 : Index := Scalar.indexCast v128
  let c0_100 : Index := 0#32
  ![v129.toNat, 0]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10 : BitVec 32 := 8#32
  let v17 : BitVec 32 := Scalar.divsi v2 c8_i32_10
  let c512_i32_104 : BitVec 32 := 512#32
  let v135 : BitVec 32 := Scalar.muli v17 c512_i32_104
  let v136 : Index := Scalar.indexCast v135
  let c0_105 : Index := 0#32
  ![v136.toNat, 0]
def k0_off9 (d0 : Dev nD) (c1_i32_115 : BitVec 32) (c0_i32_135 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10 : BitVec 32 := 8#32
  let v17 : BitVec 32 := Scalar.divsi v2 c8_i32_10
  let c1_i32_114 : BitVec 32 := 1#32
  let v154 : BitVec 32 := Scalar.subi v17 c1_i32_114
  let v155 : BitVec 32 := Scalar.subi v154 c1_i32_115
  let c8_i32_116 : BitVec 32 := 8#32
  let v156 : BitVec 32 := Scalar.addi v155 c8_i32_116
  let c4_i32_117 : BitVec 32 := 4#32
  let v157 : BitVec 32 := Scalar.remsi v156 c4_i32_117
  let c512_i32_134 : BitVec 32 := 512#32
  let v172 : BitVec 32 := Scalar.muli v157 c512_i32_134
  let v173 : BitVec 32 := Scalar.addi v172 c0_i32_135
  let v174 : Index := Scalar.indexCast v173
  let c0_136 : Index := 0#32
  ![v174.toNat, 0]
def k0_dev9 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.addi v2 c8_i32_0
  let c32_i32_1 : BitVec 32 := 32#32
  let v6 : BitVec 32 := Scalar.remsi v5 c32_i32_1
  let c1_i32_143 : BitVec 32 := 1#32
  let v181 : BitVec 32 := Scalar.muli v6 c1_i32_143
  let v182 : BitVec 32 := Scalar.addi c0_i32_144 v181
  v182.toNat
def k0_dev10 (d0 : Dev nD) : Nat :=
  let c0_i32_172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.addi v2 c8_i32_0
  let c32_i32_1 : BitVec 32 := 32#32
  let v6 : BitVec 32 := Scalar.remsi v5 c32_i32_1
  let c1_i32_171 : BitVec 32 := 1#32
  let v211 : BitVec 32 := Scalar.muli v6 c1_i32_171
  let v212 : BitVec 32 := Scalar.addi c0_i32_172 v211
  v212.toNat
def k0_off10 (d0 : Dev nD) (c1_i32_119 : BitVec 32) (c0_i32_191 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10 : BitVec 32 := 8#32
  let v17 : BitVec 32 := Scalar.divsi v2 c8_i32_10
  let c1_i32_118 : BitVec 32 := 1#32
  let v158 : BitVec 32 := Scalar.addi v17 c1_i32_118
  let v159 : BitVec 32 := Scalar.addi v158 c1_i32_119
  let c4_i32_120 : BitVec 32 := 4#32
  let v160 : BitVec 32 := Scalar.remsi v159 c4_i32_120
  let c512_i32_190 : BitVec 32 := 512#32
  let v232 : BitVec 32 := Scalar.muli v160 c512_i32_190
  let v233 : BitVec 32 := Scalar.addi v232 c0_i32_191
  let v234 : Index := Scalar.indexCast v233
  let c1024_192 : Index := 1024#32
  ![v234.toNat, 1024]
def k0_dev11 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2 : BitVec 32 := 8#32
  let v7 : BitVec 32 := Scalar.subi v2 c8_i32_2
  let c32_i32_3 : BitVec 32 := 32#32
  let v8 : BitVec 32 := Scalar.addi v7 c32_i32_3
  let c32_i32_4 : BitVec 32 := 32#32
  let v9 : BitVec 32 := Scalar.remsi v8 c32_i32_4
  let c1_i32_200 : BitVec 32 := 1#32
  let v241 : BitVec 32 := Scalar.muli v9 c1_i32_200
  let v242 : BitVec 32 := Scalar.addi c0_i32_201 v241
  v242.toNat
def k0_dev12 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2 : BitVec 32 := 8#32
  let v7 : BitVec 32 := Scalar.subi v2 c8_i32_2
  let c32_i32_3 : BitVec 32 := 32#32
  let v8 : BitVec 32 := Scalar.addi v7 c32_i32_3
  let c32_i32_4 : BitVec 32 := 32#32
  let v9 : BitVec 32 := Scalar.remsi v8 c32_i32_4
  let c1_i32_229 : BitVec 32 := 1#32
  let v271 : BitVec 32 := Scalar.muli v9 c1_i32_229
  let v272 : BitVec 32 := Scalar.addi c0_i32_230 v271
  v272.toNat
def k0_dev13 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.addi v2 c8_i32_0
  let c32_i32_1 : BitVec 32 := 32#32
  let v6 : BitVec 32 := Scalar.remsi v5 c32_i32_1
  let c1_i32_264 : BitVec 32 := 1#32
  let v308 : BitVec 32 := Scalar.muli v6 c1_i32_264
  let v309 : BitVec 32 := Scalar.addi c0_i32_265 v308
  v309.toNat
def k0_dev14 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v5 : BitVec 32 := Scalar.addi v2 c8_i32_0
  let c32_i32_1 : BitVec 32 := 32#32
  let v6 : BitVec 32 := Scalar.remsi v5 c32_i32_1
  let c1_i32_292 : BitVec 32 := 1#32
  let v338 : BitVec 32 := Scalar.muli v6 c1_i32_292
  let v339 : BitVec 32 := Scalar.addi c0_i32_293 v338
  v339.toNat
def k0_dev15 (d0 : Dev nD) : Nat :=
  let c0_i32_322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2 : BitVec 32 := 8#32
  let v7 : BitVec 32 := Scalar.subi v2 c8_i32_2
  let c32_i32_3 : BitVec 32 := 32#32
  let v8 : BitVec 32 := Scalar.addi v7 c32_i32_3
  let c32_i32_4 : BitVec 32 := 32#32
  let v9 : BitVec 32 := Scalar.remsi v8 c32_i32_4
  let c1_i32_321 : BitVec 32 := 1#32
  let v368 : BitVec 32 := Scalar.muli v9 c1_i32_321
  let v369 : BitVec 32 := Scalar.addi c0_i32_322 v368
  v369.toNat
def k0_dev16 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2 : BitVec 32 := 8#32
  let v7 : BitVec 32 := Scalar.subi v2 c8_i32_2
  let c32_i32_3 : BitVec 32 := 32#32
  let v8 : BitVec 32 := Scalar.addi v7 c32_i32_3
  let c32_i32_4 : BitVec 32 := 32#32
  let v9 : BitVec 32 := Scalar.remsi v8 c32_i32_4
  let c1_i32_350 : BitVec 32 := 1#32
  let v398 : BitVec 32 := Scalar.muli v9 c1_i32_350
  let v399 : BitVec 32 := Scalar.addi c0_i32_351 v398
  v399.toNat
def k0_off11 (d0 : Dev nD) (c0_i32_370 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10 : BitVec 32 := 8#32
  let v17 : BitVec 32 := Scalar.divsi v2 c8_i32_10
  let c512_i32_369 : BitVec 32 := 512#32
  let v419 : BitVec 32 := Scalar.muli v17 c512_i32_369
  let v420 : BitVec 32 := Scalar.addi v419 c0_i32_370
  let v421 : Index := Scalar.indexCast v420
  let c0_371 : Index := 0#32
  ![v421.toNat, 0]
def k0_off12 (d0 : Dev nD) (c0_i32_406 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_10 : BitVec 32 := 8#32
  let v17 : BitVec 32 := Scalar.divsi v2 c8_i32_10
  let c512_i32_405 : BitVec 32 := 512#32
  let v457 : BitVec 32 := Scalar.muli v17 c512_i32_405
  let v458 : BitVec 32 := Scalar.addi v457 c0_i32_406
  let v459 : Index := Scalar.indexCast v458
  let c1024_407 : Index := 1024#32
  ![v459.toNat, 1024]
def k0_off13 (d0 : Dev nD) (c0_i32_433 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c1_i32_428 : BitVec 32 := 1#32
  let v484 : BitVec 32 := Scalar.subi v3 c1_i32_428
  let c8_i32_429 : BitVec 32 := 8#32
  let v485 : BitVec 32 := Scalar.addi v484 c8_i32_429
  let c8_i32_430 : BitVec 32 := 8#32
  let v486 : BitVec 32 := Scalar.remsi v485 c8_i32_430
  let c64_i32 : BitVec 32 := 64#32
  let v489 : BitVec 32 := Scalar.muli v486 c64_i32
  let v490 : BitVec 32 := Scalar.addi v489 c0_i32_433
  let v491 : Index := Scalar.indexCast v490
  let c0_434 : Index := 0#32
  ![v491.toNat, 0]
def k0_dev17 (d0 : Dev nD) : Nat :=
  let c0_i32_443 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_442 : BitVec 32 := 1#32
  let v497 : BitVec 32 := Scalar.muli v12 c1_i32_442
  let v498 : BitVec 32 := Scalar.addi c0_i32_443 v497
  v498.toNat
def k0_dev18 (d0 : Dev nD) : Nat :=
  let c0_i32_458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_457 : BitVec 32 := 1#32
  let v515 : BitVec 32 := Scalar.muli v12 c1_i32_457
  let v516 : BitVec 32 := Scalar.addi c0_i32_458 v515
  v516.toNat
def k0_off14 (d0 : Dev nD) (c0_i32_464 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c1_i32_431 : BitVec 32 := 1#32
  let v487 : BitVec 32 := Scalar.addi v3 c1_i32_431
  let c8_i32_432 : BitVec 32 := 8#32
  let v488 : BitVec 32 := Scalar.remsi v487 c8_i32_432
  let c64_i32_463 : BitVec 32 := 64#32
  let v525 : BitVec 32 := Scalar.muli v488 c64_i32_463
  let v526 : BitVec 32 := Scalar.addi v525 c0_i32_464
  let v527 : Index := Scalar.indexCast v526
  let c0_465 : Index := 0#32
  ![v527.toNat, 0]
def k0_dev19 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_473 : BitVec 32 := 1#32
  let v533 : BitVec 32 := Scalar.muli v16 c1_i32_473
  let v534 : BitVec 32 := Scalar.addi c0_i32_474 v533
  v534.toNat
def k0_dev20 (d0 : Dev nD) : Nat :=
  let c0_i32_490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_489 : BitVec 32 := 1#32
  let v551 : BitVec 32 := Scalar.muli v16 c1_i32_489
  let v552 : BitVec 32 := Scalar.addi c0_i32_490 v551
  v552.toNat
def k0_off15 (d0 : Dev nD) (c1_i32_496 : BitVec 32) (c0_i32_515 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c1_i32_495 : BitVec 32 := 1#32
  let v561 : BitVec 32 := Scalar.subi v3 c1_i32_495
  let v562 : BitVec 32 := Scalar.subi v561 c1_i32_496
  let c16_i32 : BitVec 32 := 16#32
  let v563 : BitVec 32 := Scalar.addi v562 c16_i32
  let c8_i32_497 : BitVec 32 := 8#32
  let v564 : BitVec 32 := Scalar.remsi v563 c8_i32_497
  let c64_i32_514 : BitVec 32 := 64#32
  let v579 : BitVec 32 := Scalar.muli v564 c64_i32_514
  let v580 : BitVec 32 := Scalar.addi v579 c0_i32_515
  let v581 : Index := Scalar.indexCast v580
  let c0_516 : Index := 0#32
  ![v581.toNat, 0]
def k0_dev21 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_524 : BitVec 32 := 1#32
  let v588 : BitVec 32 := Scalar.muli v12 c1_i32_524
  let v589 : BitVec 32 := Scalar.addi c0_i32_525 v588
  v589.toNat
def k0_dev22 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_553 : BitVec 32 := 1#32
  let v618 : BitVec 32 := Scalar.muli v12 c1_i32_553
  let v619 : BitVec 32 := Scalar.addi c0_i32_554 v618
  v619.toNat
def k0_off16 (d0 : Dev nD) (c1_i32_499 : BitVec 32) (c0_i32_573 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c1_i32_498 : BitVec 32 := 1#32
  let v565 : BitVec 32 := Scalar.addi v3 c1_i32_498
  let v566 : BitVec 32 := Scalar.addi v565 c1_i32_499
  let c8_i32_500 : BitVec 32 := 8#32
  let v567 : BitVec 32 := Scalar.remsi v566 c8_i32_500
  let c64_i32_572 : BitVec 32 := 64#32
  let v639 : BitVec 32 := Scalar.muli v567 c64_i32_572
  let v640 : BitVec 32 := Scalar.addi v639 c0_i32_573
  let v641 : Index := Scalar.indexCast v640
  let c0_574 : Index := 0#32
  ![v641.toNat, 0]
def k0_dev23 (d0 : Dev nD) : Nat :=
  let c0_i32_583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_582 : BitVec 32 := 1#32
  let v648 : BitVec 32 := Scalar.muli v16 c1_i32_582
  let v649 : BitVec 32 := Scalar.addi c0_i32_583 v648
  v649.toNat
def k0_dev24 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_611 : BitVec 32 := 1#32
  let v678 : BitVec 32 := Scalar.muli v16 c1_i32_611
  let v679 : BitVec 32 := Scalar.addi c0_i32_612 v678
  v679.toNat
def k0_dev25 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_647 : BitVec 32 := 1#32
  let v715 : BitVec 32 := Scalar.muli v12 c1_i32_647
  let v716 : BitVec 32 := Scalar.addi c0_i32_648 v715
  v716.toNat
def k0_dev26 (d0 : Dev nD) : Nat :=
  let c0_i32_677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_676 : BitVec 32 := 1#32
  let v745 : BitVec 32 := Scalar.muli v12 c1_i32_676
  let v746 : BitVec 32 := Scalar.addi c0_i32_677 v745
  v746.toNat
def k0_dev27 (d0 : Dev nD) : Nat :=
  let c0_i32_706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_705 : BitVec 32 := 1#32
  let v775 : BitVec 32 := Scalar.muli v16 c1_i32_705
  let v776 : BitVec 32 := Scalar.addi c0_i32_706 v775
  v776.toNat
def k0_dev28 (d0 : Dev nD) : Nat :=
  let c0_i32_735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_734 : BitVec 32 := 1#32
  let v805 : BitVec 32 := Scalar.muli v16 c1_i32_734
  let v806 : BitVec 32 := Scalar.addi c0_i32_735 v805
  v806.toNat
def k0_dev29 (d0 : Dev nD) : Nat :=
  let c0_i32_769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_768 : BitVec 32 := 1#32
  let v842 : BitVec 32 := Scalar.muli v12 c1_i32_768
  let v843 : BitVec 32 := Scalar.addi c0_i32_769 v842
  v843.toNat
def k0_dev30 (d0 : Dev nD) : Nat :=
  let c0_i32_797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_796 : BitVec 32 := 1#32
  let v872 : BitVec 32 := Scalar.muli v12 c1_i32_796
  let v873 : BitVec 32 := Scalar.addi c0_i32_797 v872
  v873.toNat
def k0_dev31 (d0 : Dev nD) : Nat :=
  let c0_i32_826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_825 : BitVec 32 := 1#32
  let v902 : BitVec 32 := Scalar.muli v16 c1_i32_825
  let v903 : BitVec 32 := Scalar.addi c0_i32_826 v902
  v903.toNat
def k0_dev32 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_854 : BitVec 32 := 1#32
  let v932 : BitVec 32 := Scalar.muli v16 c1_i32_854
  let v933 : BitVec 32 := Scalar.addi c0_i32_855 v932
  v933.toNat
def k0_dev33 (d0 : Dev nD) : Nat :=
  let c0_i32_890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_889 : BitVec 32 := 1#32
  let v969 : BitVec 32 := Scalar.muli v12 c1_i32_889
  let v970 : BitVec 32 := Scalar.addi c0_i32_890 v969
  v970.toNat
def k0_dev34 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_917 : BitVec 32 := 1#32
  let v999 : BitVec 32 := Scalar.muli v12 c1_i32_917
  let v1000 : BitVec 32 := Scalar.addi c0_i32_918 v999
  v1000.toNat
def k0_dev35 (d0 : Dev nD) : Nat :=
  let c0_i32_947 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_946 : BitVec 32 := 1#32
  let v1029 : BitVec 32 := Scalar.muli v16 c1_i32_946
  let v1030 : BitVec 32 := Scalar.addi c0_i32_947 v1029
  v1030.toNat
def k0_dev36 (d0 : Dev nD) : Nat :=
  let c0_i32_976 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_975 : BitVec 32 := 1#32
  let v1059 : BitVec 32 := Scalar.muli v16 c1_i32_975
  let v1060 : BitVec 32 := Scalar.addi c0_i32_976 v1059
  v1060.toNat
def k0_dev37 (d0 : Dev nD) : Nat :=
  let c0_i32_1010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_1009 : BitVec 32 := 1#32
  let v1096 : BitVec 32 := Scalar.muli v12 c1_i32_1009
  let v1097 : BitVec 32 := Scalar.addi c0_i32_1010 v1096
  v1097.toNat
def k0_dev38 (d0 : Dev nD) : Nat :=
  let c0_i32_1038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_1037 : BitVec 32 := 1#32
  let v1126 : BitVec 32 := Scalar.muli v12 c1_i32_1037
  let v1127 : BitVec 32 := Scalar.addi c0_i32_1038 v1126
  v1127.toNat
def k0_dev39 (d0 : Dev nD) : Nat :=
  let c0_i32_1067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_1066 : BitVec 32 := 1#32
  let v1156 : BitVec 32 := Scalar.muli v16 c1_i32_1066
  let v1157 : BitVec 32 := Scalar.addi c0_i32_1067 v1156
  v1157.toNat
def k0_dev40 (d0 : Dev nD) : Nat :=
  let c0_i32_1096 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_1095 : BitVec 32 := 1#32
  let v1186 : BitVec 32 := Scalar.muli v16 c1_i32_1095
  let v1187 : BitVec 32 := Scalar.addi c0_i32_1096 v1186
  v1187.toNat
def k0_dev41 (d0 : Dev nD) : Nat :=
  let c0_i32_1130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_1129 : BitVec 32 := 1#32
  let v1223 : BitVec 32 := Scalar.muli v12 c1_i32_1129
  let v1224 : BitVec 32 := Scalar.addi c0_i32_1130 v1223
  v1224.toNat
def k0_dev42 (d0 : Dev nD) : Nat :=
  let c0_i32_1158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c1_i32_5 : BitVec 32 := 1#32
  let v10 : BitVec 32 := Scalar.addi v3 c1_i32_5
  let c8_i32_6 : BitVec 32 := 8#32
  let v11 : BitVec 32 := Scalar.remsi v10 c8_i32_6
  let v12 : BitVec 32 := Scalar.addi v4 v11
  let c1_i32_1157 : BitVec 32 := 1#32
  let v1253 : BitVec 32 := Scalar.muli v12 c1_i32_1157
  let v1254 : BitVec 32 := Scalar.addi c0_i32_1158 v1253
  v1254.toNat
def k0_dev43 (d0 : Dev nD) : Nat :=
  let c0_i32_1187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_1186 : BitVec 32 := 1#32
  let v1283 : BitVec 32 := Scalar.muli v16 c1_i32_1186
  let v1284 : BitVec 32 := Scalar.addi c0_i32_1187 v1283
  v1284.toNat
def k0_dev44 (d0 : Dev nD) : Nat :=
  let c0_i32_1216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let v4 : BitVec 32 := Scalar.subi v2 v3
  let c8_i32_7 : BitVec 32 := 8#32
  let v13 : BitVec 32 := Scalar.addi v3 c8_i32_7
  let c1_i32_8 : BitVec 32 := 1#32
  let v14 : BitVec 32 := Scalar.subi v13 c1_i32_8
  let c8_i32_9 : BitVec 32 := 8#32
  let v15 : BitVec 32 := Scalar.remsi v14 c8_i32_9
  let v16 : BitVec 32 := Scalar.addi v4 v15
  let c1_i32_1215 : BitVec 32 := 1#32
  let v1313 : BitVec 32 := Scalar.muli v16 c1_i32_1215
  let v1314 : BitVec 32 := Scalar.addi c0_i32_1216 v1313
  v1314.toNat
def k0_off17 (d0 : Dev nD) (c0_i32_1235 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.remsi v2 c8_i32
  let c64_i32_1234 : BitVec 32 := 64#32
  let v1334 : BitVec 32 := Scalar.muli v3 c64_i32_1234
  let v1335 : BitVec 32 := Scalar.addi v1334 c0_i32_1235
  let v1336 : Index := Scalar.indexCast v1335
  let c0_1236 : Index := 0#32
  ![v1336.toNat, 0]
abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Kernel.PlanEq.lean ====
module

public import proofs.«01_k».proof.Proof.Kernel.Plan
public import proofs.«01_k».proof.Proof.Gen.Kernel.Points

@[expose] public section

noncomputable section

namespace Cert.Kernel.Gen

open Idealize.ShloMosaic Idealize.ShloMosaic.TcCoe Idealize.SL.Sem

variable {F : FTy → Type} [FloatOps F]

set_option maxHeartbeats 4000000 in
set_option maxRecDepth 100000 in
/-- The body the pipeline calls is the plan. -/
theorem body_eq_plan : cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 =
      plan (F := F) := by
  rfl

end Cert.Kernel.Gen

end
-- ==== Proof.KernelIdeal.Plan.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-! The kernel body, written as the steps it consists of: four block products, and for each of the
forty messages of the two ring phases a step that sends it, one that takes it in, and one that waits
for its send to be over. -/

@[expose] public section

noncomputable section

namespace Cert.KernelIdeal.Gen

open Idealize.ShloMosaic Idealize.ShloMosaic.TcCoe Idealize.SL.Sem

variable {F : FTy → Type} [FloatOps F]

/-- A program of the kernel's core. -/
abbrev P (F : FTy → Type) [FloatOps F] : Type _ := Prog (TpuEff nD τ sig (Elt F) Λ₀ .tc) PUnit

/-- One message's place: the two buffers it is sent from and received in, the slot of both it uses,
    its two semaphores and the device it goes to. -/
structure Chan where
  sB : Shape
  st : Memref sig .tc .vmem sB .bf16
  rv : Memref sig .tc .vmem sB .bf16
  hst : st.IsWhole
  hrv : rv.IsWhole
  hsc : rv.view.ref.isScScratch = false
  r : Rect sB
  one : ∀ a, r.stride a = 1
  pos : 0 < r.shape.numel
  packed : r.PackedRows (EltTy.packing .bf16)
  words : r.WholeWords (EltTy.packing .bf16)
  sF : Shape
  sq : r.shape.Squeezes sF
  ss : DmaSem sig
  rs : DmaSem sig
  dev : Dev nD → Dev nD

namespace Chan
variable (C : Chan)

/-- The slot a message is sent from. -/
abbrev stv : Memref sig .tc .vmem C.sF .bf16 := (C.st.slice C.r C.one).squeeze C.sF C.sq
/-- The slot a message is received in. -/
abbrev rvv : Memref sig .tc .vmem C.sF .bf16 := (C.rv.slice C.r C.one).squeeze C.sF C.sq

theorem stv_words : C.stv.view.WordExact := (C.hst.wordExact_slice rfl _ C.words).reshape _ _
theorem rvv_words : C.rvv.view.WordExact := (C.hrv.wordExact_slice rfl _ C.words).reshape _ _

/-- Write a message into its slot and send it. -/
def put (c : Dev nD) (v : Vec F C.r.shape .bf16) (k : P F) : P F :=
  .op (.load C.st C.r.toLoadRect (View.loadsAt_vmem C.pos)) fun _ =>
  .op (.store C.st C.r v Finset.univ (View.stores_vmem C.pos (C.hst.storeExact_slice rfl _ C.packed) (fun _ => rfl)) (.inl rfl)) fun _ =>
  .op (.enqueueDma C.stv (.remote (Dev.tc (C.dev c)) C.rvv (.dma C.ss) C.hsc) (.dma C.rs) C.stv_words C.rvv_words
    ⟨⟨rfl, Or.inl rfl⟩, trivial⟩) fun _ => k

/-- Wait for a message and read it. -/
def get (k : Vec F C.r.shape .bf16 → P F) : P F :=
  .op (.waitDma2 C.rs C.stv C.rvv C.stv_words C.rvv_words) fun _ =>
  .op (.load C.rv C.r.toLoadRect (View.loadsAt_vmem C.pos)) k

/-- Wait for a message's send to be over. -/
def drain (k : P F) : P F :=
  .op (.waitDma2 C.ss C.rvv C.stv C.rvv_words C.stv_words) fun _ => k

end Chan

/-! ## The forty messages -/

abbrev xM : Memref sig .tc .vmem S2048x64 .f32 := Memref.whole cc0_stg0_0
abbrev wM : Memref sig .tc .vmem S64x2048 .f32 := Memref.whole cc0_stg1_0
abbrev oM : Memref sig .tc .vmem S64x2048 .f32 := Memref.whole cc0_stg2_0
abbrev pM : Memref sig .tc .vmem S2048x2048 .f32 := Memref.whole cc0_scratch0
abbrev st1 (d : Bool) : Memref sig .tc .vmem S3x512x1024 .bf16 := match d with
  | false => Memref.whole cc0_scratch1 | true => Memref.whole cc0_scratch3
abbrev rv1 (d : Bool) : Memref sig .tc .vmem S3x512x1024 .bf16 := match d with
  | false => Memref.whole cc0_scratch2 | true => Memref.whole cc0_scratch4
abbrev aM (d : Bool) : Memref sig .tc .vmem S512x1024 .f32 := match d with
  | false => Memref.whole cc0_scratch5 | true => Memref.whole cc0_scratch6
abbrev st2 (d : Bool) : Memref sig .tc .vmem S7x64x1024 .bf16 := match d with
  | false => Memref.whole cc0_scratch7 | true => Memref.whole cc0_scratch9
abbrev rv2 (d : Bool) : Memref sig .tc .vmem S7x64x1024 .bf16 := match d with
  | false => Memref.whole cc0_scratch8 | true => Memref.whole cc0_scratch10

theorem inb1 : ∀ (s : Fin 3) (u : Fin 2) a, (![s.val, 256 * u.val, 0] : Fin 3 → ℕ) a + S1x256x1024.size a ≤ S3x512x1024.size a := by
  decide
theorem inb2 : ∀ (s : Fin 7) (u : Fin 2) a, (![s.val, 32 * u.val, 0] : Fin 3 → ℕ) a + S1x32x1024.size a ≤ S7x64x1024.size a := by
  decide
abbrev r1 (s : Fin 3) (u : Fin 2) : Rect S3x512x1024 := Rect.unit (s := S3x512x1024) ![s.val, 256 * u.val, 0] S1x256x1024.size (inb1 s u)
abbrev r2 (s : Fin 7) (u : Fin 2) : Rect S7x64x1024 := Rect.unit (s := S7x64x1024) ![s.val, 32 * u.val, 0] S1x32x1024.size (inb2 s u)

theorem packed1 : ∀ (s : Fin 3) (u : Fin 2), (r1 s u).PackedRows (EltTy.packing .bf16) := by decide
theorem packed2 : ∀ (s : Fin 7) (u : Fin 2), (r2 s u).PackedRows (EltTy.packing .bf16) := by decide
theorem words1 : ∀ (s : Fin 3) (u : Fin 2), (r1 s u).WholeWords (EltTy.packing .bf16) := by decide
theorem words2 : ∀ (s : Fin 7) (u : Fin 2), (r2 s u).WholeWords (EltTy.packing .bf16) := by decide

/-- The device the first phase's messages go to, by direction. -/
def dev1 (d : Bool) (c : Dev nD) : Dev nD := match d with
  | false => ⟨k0_dev5 c, k0_dev5_lt c⟩ | true => ⟨k0_dev7 c, k0_dev7_lt c⟩
/-- The device the second phase's messages go to, by direction. -/
def dev2 (d : Bool) (c : Dev nD) : Dev nD := match d with
  | false => ⟨k0_dev17 c, k0_dev17_lt c⟩ | true => ⟨k0_dev19 c, k0_dev19_lt c⟩

/-- The first phase's message of hop `s`, direction `d`, half `u`. -/
@[reducible] def ch1 (s : Fin 3) (d : Bool) (u : Fin 2) : Chan where
  sB := S3x512x1024
  st := st1 d
  rv := rv1 d
  hst := by cases d <;> exact Memref.isWhole_whole _
  hrv := by cases d <;> exact Memref.isWhole_whole _
  hsc := by cases d <;> rfl
  r := r1 s u
  one := fun _ => rfl
  pos := h_S1x256x1024
  packed := packed1 s u
  words := words1 s u
  sF := S256x1024
  sq := squeezes_S1x256x1024_S256x1024
  ss := ⟨(match d with | false => 3 | true => 15) + (2 * s.val + u.val), by cases d <;> (show _ < 83; dsimp only; omega)⟩
  rs := ⟨(match d with | false => 9 | true => 21) + (2 * s.val + u.val), by cases d <;> (show _ < 83; dsimp only; omega)⟩
  dev := dev1 d

/-- The second phase's message of hop `s`, direction `d`, half `u`. -/
@[reducible] def ch2 (s : Fin 7) (d : Bool) (u : Fin 2) : Chan where
  sB := S7x64x1024
  st := st2 d
  rv := rv2 d
  hst := by cases d <;> exact Memref.isWhole_whole _
  hrv := by cases d <;> exact Memref.isWhole_whole _
  hsc := by cases d <;> rfl
  r := r2 s u
  one := fun _ => rfl
  pos := h_S1x32x1024
  packed := packed2 s u
  words := words2 s u
  sF := S32x1024
  sq := squeezes_S1x32x1024_S32x1024
  ss := ⟨(match d with | false => 27 | true => 55) + (2 * s.val + u.val), by cases d <;> (show _ < 83; dsimp only; omega)⟩
  rs := ⟨(match d with | false => 41 | true => 69) + (2 * s.val + u.val), by cases d <;> (show _ < 83; dsimp only; omega)⟩
  dev := dev2 d

/-! ## The rectangles the steps read and write -/

abbrev rx (off : Fin 2 → ℕ) (h : ∀ a, off a + S512x64.size a ≤ S2048x64.size a) : Rect S2048x64 := Rect.unit (s := S2048x64) off S512x64.size h
abbrev rp (off : Fin 2 → ℕ) (h : ∀ a, off a + S512x2048.size a ≤ S2048x2048.size a) : Rect S2048x2048 := Rect.unit (s := S2048x2048) off S512x2048.size h
abbrev rw_ : Rect S64x2048 := Rect.unit (s := S64x2048) ![0, 0] S64x2048.size inb_S64x2048_S64x2048_0_0

abbrev r256 (off : Fin 2 → ℕ) (h : ∀ a, off a + S256x1024.size a ≤ S2048x2048.size a) : Rect S2048x2048 :=
  Rect.unit (s := S2048x2048) off S256x1024.size h
theorem inba : ∀ (u : Fin 2) a, (![256 * u.val, 0] : Fin 2 → ℕ) a + S256x1024.size a ≤ S512x1024.size a := by decide
abbrev ra256 (u : Fin 2) : Rect S512x1024 := Rect.unit (s := S512x1024) ![256 * u.val, 0] S256x1024.size (inba u)
abbrev r32 (off : Fin 2 → ℕ) (h : ∀ a, off a + S32x1024.size a ≤ S512x1024.size a) : Rect S512x1024 :=
  Rect.unit (s := S512x1024) off S32x1024.size h
theorem inbo : ∀ (d : Bool) (u : Fin 2) a, (![32 * u.val, 1024 * d.toNat] : Fin 2 → ℕ) a + S32x1024.size a ≤ S64x2048.size a := by decide
abbrev ro (d : Bool) (u : Fin 2) : Rect S64x2048 := Rect.unit (s := S64x2048) ![32 * u.val, 1024 * d.toNat] S32x1024.size (inbo d u)

/-- Where the rows of the partial product begin that the first message of a direction is. -/
def oq0 (c : Dev nD) (d : Bool) (u : Fin 2) : Fin 2 → ℕ := match d with
  | false => k0_off3 c (BitVec.ofNat 32 (256 * u.val))
  | true => k0_off6 c (BitVec.ofNat 32 (256 * u.val))
/-- Where the rows of the partial product begin that a hop adds. -/
def oq1 (c : Dev nD) (s : Fin 2) (d : Bool) (u : Fin 2) : Fin 2 → ℕ := match d with
  | false => k0_off9 c (BitVec.ofNat 32 (1 + s.val)) (BitVec.ofNat 32 (256 * u.val))
  | true => k0_off10 c (BitVec.ofNat 32 (1 + s.val)) (BitVec.ofNat 32 (256 * u.val))
/-- Where the rows of the partial product begin that the end of the first phase adds. -/
def oqa (c : Dev nD) (d : Bool) (u : Fin 2) : Fin 2 → ℕ := match d with
  | false => k0_off11 c (BitVec.ofNat 32 (256 * u.val))
  | true => k0_off12 c (BitVec.ofNat 32 (256 * u.val))
/-- Where the rows of the first phase's sum begin that the second phase's first message is. -/
def op0 (c : Dev nD) (d : Bool) (u : Fin 2) : Fin 2 → ℕ := match d with
  | false => k0_off13 c (BitVec.ofNat 32 (32 * u.val))
  | true => k0_off14 c (BitVec.ofNat 32 (32 * u.val))
/-- Where the rows of the first phase's sum begin that a hop of the second adds. -/
def op1 (c : Dev nD) (s : Fin 6) (d : Bool) (u : Fin 2) : Fin 2 → ℕ := match d with
  | false => k0_off15 c (BitVec.ofNat 32 (1 + s.val)) (BitVec.ofNat 32 (32 * u.val))
  | true => k0_off16 c (BitVec.ofNat 32 (1 + s.val)) (BitVec.ofNat 32 (32 * u.val))
/-- Where the rows of the first phase's sum begin that the result takes. -/
def opo (c : Dev nD) (u : Fin 2) : Fin 2 → ℕ := k0_off17 c (BitVec.ofNat 32 (32 * u.val))

theorem oq0_inb (c : Dev nD) (d : Bool) (u : Fin 2) : ∀ a, oq0 c d u a + S256x1024.size a ≤ S2048x2048.size a := by
  cases d <;> [exact k0_off3_inb c u; exact k0_off6_inb c u]
theorem oq1_inb (c : Dev nD) (s : Fin 2) (d : Bool) (u : Fin 2) : ∀ a, oq1 c s d u a + S256x1024.size a ≤ S2048x2048.size a := by
  cases d <;> [exact k0_off9_inb c s u; exact k0_off10_inb c s u]
theorem oqa_inb (c : Dev nD) (d : Bool) (u : Fin 2) : ∀ a, oqa c d u a + S256x1024.size a ≤ S2048x2048.size a := by
  cases d <;> [exact k0_off11_inb c u; exact k0_off12_inb c u]
theorem op0_inb (c : Dev nD) (d : Bool) (u : Fin 2) : ∀ a, op0 c d u a + S32x1024.size a ≤ S512x1024.size a := by
  cases d <;> [exact k0_off13_inb c u; exact k0_off14_inb c u]
theorem op1_inb (c : Dev nD) (s : Fin 6) (d : Bool) (u : Fin 2) : ∀ a, op1 c s d u a + S32x1024.size a ≤ S512x1024.size a := by
  cases d <;> [exact k0_off15_inb c s u; exact k0_off16_inb c s u]
theorem opo_inb (c : Dev nD) (u : Fin 2) : ∀ a, opo c u a + S32x1024.size a ≤ S512x1024.size a := k0_off17_inb c u

abbrev q0 (c : Dev nD) (d : Bool) (u : Fin 2) : Rect S2048x2048 := r256 (oq0 c d u) (oq0_inb c d u)
abbrev q1 (c : Dev nD) (s : Fin 2) (d : Bool) (u : Fin 2) : Rect S2048x2048 := r256 (oq1 c s d u) (oq1_inb c s d u)
abbrev qa (c : Dev nD) (d : Bool) (u : Fin 2) : Rect S2048x2048 := r256 (oqa c d u) (oqa_inb c d u)
abbrev p0 (c : Dev nD) (d : Bool) (u : Fin 2) : Rect S512x1024 := r32 (op0 c d u) (op0_inb c d u)
abbrev p1 (c : Dev nD) (s : Fin 6) (d : Bool) (u : Fin 2) : Rect S512x1024 := r32 (op1 c s d u) (op1_inb c s d u)
abbrev po (c : Dev nD) (u : Fin 2) : Rect S512x1024 := r32 (opo c u) (opo_inb c u)

/-- Where the rows begin that block product number `i` reads and writes. -/
def od (c : Dev nD) : Fin 4 → (Fin 2 → ℕ) × (Fin 2 → ℕ)
  | 0 => (k0_off1 c, k0_off2 c)
  | 1 => (k0_off4 c 1#32, k0_off5 c 1#32)
  | 2 => (k0_off7 c, k0_off8 c)
  | 3 => (k0_off4 c 2#32, k0_off5 c 2#32)
theorem odx_inb (c : Dev nD) (i : Fin 4) : ∀ a, (od c i).1 a + S512x64.size a ≤ S2048x64.size a :=
  match i with
  | 0 => k0_off1_inb c | 1 => k0_off4_inb c 0 | 2 => k0_off7_inb c | 3 => k0_off4_inb c 1
theorem odp_inb (c : Dev nD) (i : Fin 4) : ∀ a, (od c i).2 a + S512x2048.size a ≤ S2048x2048.size a :=
  match i with
  | 0 => k0_off2_inb c | 1 => k0_off5_inb c 0 | 2 => k0_off8_inb c | 3 => k0_off5_inb c 1

/-! ## The steps -/

/-- A block of rows of the product of the device's two blocks. -/
def dotS (c : Dev nD) (i : Fin 4) (k : P F) : P F :=
  .op (.load xM (rx _ (odx_inb c i)).toLoadRect (View.loadsAt_vmem h_S512x64)) fun x =>
  .op (.load wM rw_.toLoadRect (View.loadsAt_vmem h_S64x2048)) fun w =>
  .op (.load pM (rp _ (odp_inb c i)).toLoadRect (View.loadsAt_vmem h_S512x2048)) fun _ =>
  .op (.store pM (rp _ (odp_inb c i)) (k0_pay1 x w) Finset.univ (View.stores_vmem_bits_univ h_S512x2048 rfl) (.inl rfl)) fun _ => k

/-- Send what rows of a buffer hold. -/
def putS {s : Shape} (M : Memref sig .tc .vmem s .f32) (r : Rect s) (hp : 0 < r.shape.numel) (C : Chan)
    (pay : Vec F r.shape .f32 → Vec F C.r.shape .bf16) (c : Dev nD) (k : P F) : P F :=
  .op (.load M r.toLoadRect (View.loadsAt_vmem hp)) fun v => C.put c (pay v) k

/-- Take a message in, add rows of a buffer to it, send the sum on. -/
def hopS {s : Shape} (C C' : Chan) (M : Memref sig .tc .vmem s .f32) (r : Rect s) (hp : 0 < r.shape.numel)
    (pay : Vec F C.r.shape .bf16 → Vec F r.shape .f32 → Vec F C'.r.shape .bf16) (c : Dev nD) (k : P F) : P F :=
  C.get fun x => .op (.load M r.toLoadRect (View.loadsAt_vmem hp)) fun v => C'.put c (pay x v) k

/-- Take a message in, add rows of a buffer to it, write what comes of it to another buffer. -/
def outS {s s' : Shape} (C : Chan) (M : Memref sig .tc .vmem s .f32) (r : Rect s) (hp : 0 < r.shape.numel)
    (M' : Memref sig .tc .vmem s' .f32) (r' : Rect s') (hp' : 0 < r'.shape.numel)
    (hs : (M'.access r').Stores Finset.univ)
    (pay : Vec F C.r.shape .bf16 → Vec F r.shape .f32 → Vec F r'.shape .f32) (k : P F) : P F :=
  C.get fun x => .op (.load M r.toLoadRect (View.loadsAt_vmem hp)) fun v =>
    .op (.load M' r'.toLoadRect (View.loadsAt_vmem hp')) fun _ =>
    .op (.store M' r' (pay x v) Finset.univ hs (.inl rfl)) fun _ => k

def put1 (c : Dev nD) (d : Bool) (u : Fin 2) : P F → P F :=
  putS pM (q0 c d u) h_S256x1024 (ch1 0 d u) k0_pay2 c
def hop1 (c : Dev nD) (s : Fin 2) (d : Bool) (u : Fin 2) : P F → P F :=
  hopS (ch1 s.castSucc d u) (ch1 s.succ d u) pM (q1 c s d u) h_S256x1024 k0_pay10 c
def acc1 (c : Dev nD) (d : Bool) (u : Fin 2) : P F → P F :=
  outS (ch1 2 d u) pM (qa c d u) h_S256x1024 (aM d) (ra256 u) h_S256x1024
    (by cases d <;> exact View.stores_vmem_bits_univ h_S256x1024 rfl) k0_pay19
def put2 (c : Dev nD) (d : Bool) (u : Fin 2) : P F → P F :=
  putS (aM d) (p0 c d u) h_S32x1024 (ch2 0 d u) k0_pay23 c
def hop2 (c : Dev nD) (s : Fin 6) (d : Bool) (u : Fin 2) : P F → P F :=
  hopS (ch2 s.castSucc d u) (ch2 s.succ d u) (aM d) (p1 c s d u) h_S32x1024 k0_pay27 c
def out2 (c : Dev nD) (d : Bool) (u : Fin 2) : P F → P F :=
  outS (ch2 6 d u) (aM d) (po c u) h_S32x1024 oM (ro d u) h_S32x1024
    (View.stores_vmem_bits_univ h_S32x1024 rfl) k0_pay57

/-- A step for each direction and half, in the order the kernel takes them. -/
def quad (f : Bool → Fin 2 → P F → P F) (k : P F) : P F := f false 0 (f false 1 (f true 0 (f true 1 k)))

/-- The waits for the sends of one direction of the first phase. -/
def drain1 (d : Bool) (k : P F) : P F :=
  (ch1 0 d 0).drain <| (ch1 0 d 1).drain <| (ch1 1 d 0).drain <| (ch1 1 d 1).drain <|
  (ch1 2 d 0).drain <| (ch1 2 d 1).drain k
/-- The waits for the sends of one direction of the second phase. -/
def drain2 (d : Bool) (k : P F) : P F :=
  (ch2 0 d 0).drain <| (ch2 0 d 1).drain <| (ch2 1 d 0).drain <| (ch2 1 d 1).drain <|
  (ch2 2 d 0).drain <| (ch2 2 d 1).drain <| (ch2 3 d 0).drain <| (ch2 3 d 1).drain <|
  (ch2 4 d 0).drain <| (ch2 4 d 1).drain <| (ch2 5 d 0).drain <| (ch2 5 d 1).drain <|
  (ch2 6 d 0).drain <| (ch2 6 d 1).drain k

/-- The barrier semaphore. -/
abbrev barS : Sem sig := (SemArray.scalar (sig.barrier 0 rfl) : Sems sig S_).sem

/-- The two phases, after the barrier. -/
def rest (c : Dev nD) : P F :=
  dotS c 0 <| put1 c false 0 <| put1 c false 1 <| dotS c 1 <| put1 c true 0 <| put1 c true 1 <| dotS c 2 <| dotS c 3 <|
  quad (hop1 c 0) <| quad (hop1 c 1) <| quad (acc1 c) <| quad (put2 c) <|
  quad (hop2 c 0) <| quad (hop2 c 1) <| quad (hop2 c 2) <| quad (hop2 c 3) <| quad (hop2 c 4) <| quad (hop2 c 5) <|
  quad (out2 c) <| drain1 false <| drain1 true <| drain2 false <| drain2 true <| .ret ⟨⟩

/-- The whole body. -/
def plan : P F := do
  let c : Dev nD ← Prog.lift .deviceId
  semSignalWord (⟨k0_dev1 c, k0_dev1_lt c⟩ : Dev nD) barS 1#32
  semSignalWord (⟨k0_dev2 c, k0_dev2_lt c⟩ : Dev nD) barS 1#32
  semSignalWord (⟨k0_dev3 c, k0_dev3_lt c⟩ : Dev nD) barS 1#32
  semSignalWord (⟨k0_dev4 c, k0_dev4_lt c⟩ : Dev nD) barS 1#32
  semWaitWord barS 4#32
  rest c

end Cert.KernelIdeal.Gen

end
-- ==== Proof.KernelIdeal.Contents.lean ====
module

public import proofs.«01_k».proof.Proof.KernelIdeal.Plan

/-! What the forty messages, the partial product, the two sums of the first phase and the result hold,
as functions of the two blocks every device starts with. -/

@[expose] public section

noncomputable section

namespace Cert.KernelIdeal.Gen

open Idealize.ShloMosaic Idealize.ShloMosaic.TcCoe Idealize.SL.Sem

variable {F : FTy → Type} [FloatOps F]

/-! ## The messages' names -/

/-- A message: its phase, and in it its hop, direction and half. -/
abbrev Msg : Type := (Fin 3 × Bool × Fin 2) ⊕ (Fin 7 × Bool × Fin 2)

def chd : Msg → Chan
  | .inl x => ch1 x.1 x.2.1 x.2.2
  | .inr x => ch2 x.1 x.2.1 x.2.2

/-- A message's phase and direction. -/
def lane : Msg → Bool × Bool
  | .inl x => (false, x.2.1)
  | .inr x => (true, x.2.1)

/-- A message's number in the order the kernel sends (and takes in) its messages. -/
def num : Msg → ℕ
  | .inl x => 4 * x.1.val + 2 * x.2.1.toNat + x.2.2.val
  | .inr x => 12 + (4 * x.1.val + 2 * x.2.1.toNat + x.2.2.val)

theorem num_inj : ∀ i j : Msg, num i = num j → i = j := by decide +kernel

/-- The device a lane's messages go to; -/
def nx (p : Bool × Bool) (c : Dev nD) : Dev nD := match p.1 with
  | false => dev1 p.2 c | true => dev2 p.2 c
/-- the one they come from. -/
def pv (p : Bool × Bool) (c : Dev nD) : Dev nD := nx (p.1, !p.2) c

theorem pv_nx : ∀ (p : Bool × Bool) (c : Dev nD), pv p (nx p c) = c := by decide +kernel
theorem nx_pv : ∀ (p : Bool × Bool) (c : Dev nD), nx p (pv p c) = c := by decide +kernel

theorem dev_chd (i : Msg) (c : Dev nD) : (chd i).dev c = nx (lane i) c := by
  rcases i with ⟨s, d, u⟩ | ⟨s, d, u⟩ <;> rfl

/-! ## Contents laid out rectangle by rectangle -/

/-- What a rectangle of an array holds. -/
abbrev part {α : Type} {s : Shape} (r : Rect s) (G : s.Idx → α) : r.shape.Idx → α := fun j => G (r.emb j)

open Classical in
/-- The array holding on each of a family of rectangles what is given for it. -/
def glue {α B : Type} {s : Shape} (r : B → Rect s) (v : (b : B) → (r b).shape.Idx → α) (z : α) : s.Idx → α :=
  fun i => if h : ∃ p : (b : B) × (r b).shape.Idx, (r p.1).emb p.2 = i then v h.choose.1 h.choose.2 else z

/-- It does, when no two of the rectangles share an element. -/
theorem glue_emb {α B : Type} {s : Shape} (r : B → Rect s) (v : (b : B) → (r b).shape.Idx → α) (z : α)
    (hd : ∀ b b', b ≠ b' → Disjoint (r b).set (r b').set) (b : B) (j : (r b).shape.Idx) :
    glue r v z ((r b).emb j) = v b j := by
  have h : ∃ p : (b : B) × (r b).shape.Idx, (r p.1).emb p.2 = (r b).emb j := ⟨⟨b, j⟩, rfl⟩
  unfold glue
  rw [dif_pos h]
  generalize h.choose = p, h.choose_spec = hp
  obtain ⟨b', j'⟩ := p
  have hb : b' = b := by
    by_contra hn
    have h1 : (r b').emb j' ∈ (r b').set := by rw [← Rect.map_emb_univ]; exact Finset.mem_map_of_mem _ (Finset.mem_univ _)
    have h2 : (r b).emb j ∈ (r b).set := by rw [← Rect.map_emb_univ]; exact Finset.mem_map_of_mem _ (Finset.mem_univ _)
    exact Finset.disjoint_left.mp (hd b' b hn) h1 (hp ▸ h2)
  subst hb
  have hj : j' = j := (r b').emb.injective hp
  rw [hj]

/-- The block of rows of the partial product (and of `x`) numbered `b`. -/
theorem inbR : ∀ (b : Fin 4) a, (![512 * b.val, 0] : Fin 2 → ℕ) a + S512x2048.size a ≤ S2048x2048.size a := by decide
theorem inbX : ∀ (b : Fin 4) a, (![512 * b.val, 0] : Fin 2 → ℕ) a + S512x64.size a ≤ S2048x64.size a := by decide
abbrev rB (b : Fin 4) : Rect S2048x2048 := rp ![512 * b.val, 0] (inbR b)
abbrev xB (b : Fin 4) : Rect S2048x64 := rx ![512 * b.val, 0] (inbX b)

theorem rB_disj (b b' : Fin 4) (h : b ≠ b') : Disjoint (rB b).set (rB b').set := by
  refine Rect.disjoint_of_separated _ _ (0 : Fin 2) ?_
  revert b b'; decide
theorem ra_disj (b b' : Fin 2) (h : b ≠ b') : Disjoint (ra256 b).set (ra256 b').set := by
  refine Rect.disjoint_of_separated _ _ (0 : Fin 2) ?_
  revert b b'; decide
theorem ro_disj (b b' : Bool × Fin 2) (h : b ≠ b') : Disjoint (ro b.1 b.2).set (ro b'.1 b'.2).set := by
  have : ∃ a : Fin 2, ((ro b.1 b.2).size a = 0 ∨ (ro b.1 b.2).off a + (ro b.1 b.2).stride a * ((ro b.1 b.2).size a - 1) < (ro b'.1 b'.2).off a)
      ∨ ((ro b'.1 b'.2).size a = 0 ∨ (ro b'.1 b'.2).off a + (ro b'.1 b'.2).stride a * ((ro b'.1 b'.2).size a - 1) < (ro b.1 b.2).off a) := by
    revert b b'; decide
  obtain ⟨a, ha⟩ := this
  exact Rect.disjoint_of_separated _ _ a ha

/-! ## The contents -/

section
variable (X : Dev nD → Vec F S2048x64 .f32) (W : Dev nD → Vec F S64x2048 .f32)

/-- Zero, where an array is never looked at. -/
abbrev nil : F .f32 := Scalar.ofBits .f32 0x00000000#32

/-- The partial product of a device. -/
def pB (c : Dev nD) : Vec F S2048x2048 .f32 := glue rB (fun b => k0_pay1 (part (xB b) (X c)) (part rw_ (W c))) nil

theorem pB_emb (c : Dev nD) (b : Fin 4) (j : (rB b).shape.Idx) :
    pB X W c ((rB b).emb j) = k0_pay1 (part (xB b) (X c)) (part rw_ (W c)) j := glue_emb _ _ _ rB_disj b j

/-- What the first phase's hop `s` of a direction and half sends on from device `c`. -/
def msg1 (d : Bool) (u : Fin 2) : ℕ → Dev nD → Vec F S1x256x1024 .bf16
  | 0, c => k0_pay2 (part (q0 c d u) (pB X W c))
  | s + 1, c => k0_pay10 (msg1 d u s (pv (false, d) c)) (part (q1 c (Fin.ofNat 2 s) d u) (pB X W c))

/-- The first phase's sum of one direction on device `c`. -/
def aB (d : Bool) (c : Dev nD) : Vec F S512x1024 .f32 :=
  glue ra256 (fun u => k0_pay19 (msg1 X W d u 2 (pv (false, d) c)) (part (qa c d u) (pB X W c))) nil

theorem aB_emb (d : Bool) (c : Dev nD) (u : Fin 2) (j : (ra256 u).shape.Idx) :
    aB X W d c ((ra256 u).emb j) = k0_pay19 (msg1 X W d u 2 (pv (false, d) c)) (part (qa c d u) (pB X W c)) j :=
  glue_emb _ _ _ ra_disj u j

/-- What the second phase's hop `s` of a direction and half sends on from device `c`. -/
def msg2 (d : Bool) (u : Fin 2) : ℕ → Dev nD → Vec F S1x32x1024 .bf16
  | 0, c => k0_pay23 (part (p0 c d u) (aB X W d c))
  | s + 1, c => k0_pay27 (msg2 d u s (pv (true, d) c)) (part (p1 c (Fin.ofNat 6 s) d u) (aB X W d c))

/-- The result of device `c`. -/
def oB (c : Dev nD) : Vec F S64x2048 .f32 :=
  glue (fun b : Bool × Fin 2 => ro b.1 b.2)
    (fun b => k0_pay57 (msg2 X W b.1 b.2 6 (pv (true, b.1) c)) (part (po c b.2) (aB X W b.1 c))) nil

theorem oB_emb (c : Dev nD) (d : Bool) (u : Fin 2) (j : (ro d u).shape.Idx) :
    oB X W c ((ro d u).emb j) = k0_pay57 (msg2 X W d u 6 (pv (true, d) c)) (part (po c u) (aB X W d c)) j :=
  glue_emb (fun b : Bool × Fin 2 => ro b.1 b.2) _ _ ro_disj (d, u) j

/-- A message as device `c` sends it. -/
def msg : (i : Msg) → Dev nD → Vec F (chd i).r.shape .bf16
  | .inl (s, d, u), c => msg1 X W d u s.val c
  | .inr (s, d, u), c => msg2 X W d u s.val c

theorem msg_put1 (c : Dev nD) (d : Bool) (u : Fin 2) : msg X W (.inl (0, d, u)) c = k0_pay2 (part (q0 c d u) (pB X W c)) := rfl
theorem msg_hop1 (c : Dev nD) (s : Fin 2) (d : Bool) (u : Fin 2) : msg X W (.inl (s.succ, d, u)) c
    = k0_pay10 (msg X W (.inl (s.castSucc, d, u)) (pv (false, d) c)) (part (q1 c s d u) (pB X W c)) := by
  have h : Fin.ofNat 2 s.val = s := by revert s; decide
  show k0_pay10 _ (part (q1 c (Fin.ofNat 2 s.val) d u) (pB X W c)) = _
  rw [h]; rfl
theorem msg_put2 (c : Dev nD) (d : Bool) (u : Fin 2) : msg X W (.inr (0, d, u)) c = k0_pay23 (part (p0 c d u) (aB X W d c)) := rfl
theorem msg_hop2 (c : Dev nD) (s : Fin 6) (d : Bool) (u : Fin 2) : msg X W (.inr (s.succ, d, u)) c
    = k0_pay27 (msg X W (.inr (s.castSucc, d, u)) (pv (true, d) c)) (part (p1 c s d u) (aB X W d c)) := by
  have h : Fin.ofNat 6 s.val = s := by revert s; decide
  show k0_pay27 _ (part (p1 c (Fin.ofNat 6 s.val) d u) (aB X W d c)) = _
  rw [h]; rfl

end

end Cert.KernelIdeal.Gen

end
-- ==== Proof.KernelIdeal.Cells.lean ====
module

public import proofs.«01_k».proof.Proof.KernelIdeal.Contents

/-! The protocol of the kernel's eighty-one semaphores: what each hands over, to whom, and what each
device owes. Every semaphore goes through one round. A device's barrier is raised by its four
neighbours, each handing over the slots it receives that device's messages in. A message's receive
semaphore hands the receiver the slot holding the message; its send semaphore hands the slot it was
sent from back to the sender. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The names of a barrier's four duties: the lane whose slots are handed over. -/
abbrev Duty : Type := Bool × Bool
abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- A message's send semaphore (left) and receive semaphore (right). -/
abbrev Own : Type := Msg ⊕ Msg
set_option synthInstance.maxSize 1000 in
instance : DecidableEq Own := inferInstance
def dsem : Own → DmaSem sig
  | .inl i => (chd i).ss
  | .inr i => (chd i).rs
/-- All of a device's semaphores that the kernel names: the barrier and the messages'. -/
abbrev Key : Type := Unit ⊕ Own
set_option synthInstance.maxSize 1000 in
instance : DecidableEq Key := inferInstance
abbrev osem (k : Own) : SemLoc sig := .dma (dsem k)
def csem : Key → SemLoc sig
  | .inl _ => .reg barS
  | .inr k => osem k

theorem dsem_inj : ∀ a b : Own, dsem a = dsem b → a = b := by decide +kernel

theorem csem_inj : Function.Injective csem := by
  rintro (_ | a) (_ | b) h
  · rfl
  · cases h
  · cases h
  · exact congrArg Sum.inr (dsem_inj a b (by injection h))

open Classical in
/-- The name of a semaphore, if the kernel names it. -/
def keyOf (s : SemLoc sig) : Option Key := if h : ∃ k, csem k = s then some h.choose else none

theorem keyOf_csem (k : Key) : keyOf (csem k) = some k := by
  have h : ∃ k', csem k' = csem k := ⟨k, rfl⟩
  unfold keyOf
  rw [dif_pos h]
  exact congrArg some (csem_inj h.choose_spec)

abbrev cell (c : Dev nD) (k : Key) : GSem nD τ sig := ((c : Thread nD τ), csem k)
abbrev barCell (c : Dev nD) : GSem nD τ sig := ((c : Thread nD τ), .reg barS)
abbrev sendCell (c : Dev nD) (i : Msg) : GSem nD τ sig := ((c : Thread nD τ), .dma (chd i).ss)
abbrev recvCell (c : Dev nD) (i : Msg) : GSem nD τ sig := ((c : Thread nD τ), .dma (chd i).rs)

theorem cell_inj {c c' : Dev nD} {k k' : Key} (h : cell c k = cell c' k') : c = c' ∧ k = k' :=
  ⟨congrArg (fun g : GSem nD τ sig => g.1.1) h, csem_inj (congrArg Prod.snd h)⟩

/-- What a message's transfer counts for. -/
def cnt (i : Msg) : ℕ := (chd i).rvv.view.dmaCredit
theorem pos_sF (i : Msg) : 0 < (chd i).sF.numel := by
  rcases i with ⟨s, d, u⟩ | ⟨s, d, u⟩
  · exact h_S256x1024
  · exact h_S32x1024
theorem cnt_pos (i : Msg) : 0 < cnt i := View.dmaCredit_pos _ (pos_sF i)
theorem cnt_st (i : Msg) : (chd i).stv.view.dmaCredit = cnt i := by
  rcases i with ⟨s, d, u⟩ | ⟨s, d, u⟩ <;> cases d <;> rfl

/-! ## The slots -/

/-- The elements of a message's receiving slot, and of its sending slot. -/
abbrev rvSet (C : Chan) : Finset C.rv.view.ty.Idx := (C.rv.access C.r).set
abbrev stSet (C : Chan) : Finset C.st.view.ty.Idx := (C.st.access C.r).set

/-- Device `c` holds the slot of its own a message is sent from. -/
def stAny (c : Dev nD) (i : Msg) : sProp 𝕄 :=
  iprop(∃ f, (chd i).st.view.loc (c : Thread nD τ) ↦[stSet (chd i)]{fullShare} f)
/-- Held: the slot of device `c` a message is received in, with anything in it; -/
def rvAny (c : Dev nD) (i : Msg) : sProp 𝕄 :=
  iprop(∃ f, (chd i).rv.view.loc (c : Thread nD τ) ↦[rvSet (chd i)]{fullShare} f)
/-- with the message `v` in it. -/
def rvHas (c : Dev nD) (i : Msg) (v : Vec F (chd i).r.shape .bf16) : sProp 𝕄 :=
  iprop(∃ f, ⌜((chd i).rv.access (chd i).r).read (Elt F) f = v⌝ ∗ ((chd i).rv.view.loc (c : Thread nD τ) ↦[rvSet (chd i)]{fullShare} f))

instance stAny_storable (c : Dev nD) (i : Msg) : BI.Storable (upEmb : UEmb _ 𝕄) (stAny (F := F) c i) := by unfold stAny; infer_instance
instance rvAny_storable (c : Dev nD) (i : Msg) : BI.Storable (upEmb : UEmb _ 𝕄) (rvAny (F := F) c i) := by unfold rvAny; infer_instance
instance rvHas_storable (c : Dev nD) (i : Msg) (v) : BI.Storable (upEmb : UEmb _ 𝕄) (rvHas (F := F) c i v) := by unfold rvHas; infer_instance

/-- The messages of a lane. -/
abbrev ofLane (p : Duty) : Finset Msg := Finset.univ.filter fun i => lane i = p

/-! ## The schedule -/

section
variable (X : Dev nD → Vec F S2048x64 .f32) (W : Dev nD → Vec F S64x2048 .f32)

/-- What the neighbour device `c` sends lane `p` to hands it: the slots it receives the lane's messages in. -/
def barPay (p : Duty) (c : Dev nD) : sProp 𝕄 := bigSep (ofLane p) fun i => rvAny (nx p c) i

instance barPay_storable (p : Duty) (c : Dev nD) : BI.Storable (upEmb : UEmb _ 𝕄) (barPay (F := F) p c) := by
  unfold barPay; infer_instance

/-- What a semaphore of device `c` hands over. -/
def payOf (c : Dev nD) (d : Duty) : Option Key → sProp 𝕄
  | none => iprop(emp)
  | some (.inl _) => barPay d c
  | some (.inr (.inl i)) => stAny c i
  | some (.inr (.inr i)) => rvHas c i (msg X W i (pv (lane i) c))

instance payOf_storable (c : Dev nD) (d : Duty) (o : Option Key) : BI.Storable (upEmb : UEmb _ 𝕄) (payOf X W c d o) := by
  rcases o with _ | (_ | (i | i)) <;> unfold payOf <;> infer_instance

def dutOf : Option Key → Finset Duty
  | none => ∅
  | some (.inl _) => Finset.univ
  | some (.inr _) => {(false, false)}

def amtOf : Option Key → ℕ
  | none => 1
  | some (.inl _) => 1
  | some (.inr (.inl i)) => cnt i
  | some (.inr (.inr i)) => cnt i

/-- One round for every semaphore: the barrier's four duties of one unit, a message's two of one duty each. -/
def plan1 : Rounds.Schedule (GSem nD τ sig) Duty 𝕄 where
  duties g r := if r = 0 ∧ g.1.2 = .tc then dutOf (keyOf g.2) else ∅
  unitless _ := False
  amount g _ _ := amtOf (keyOf g.2)
  payload g _ d := payOf X W g.1.1 d (keyOf g.2)
  amount_pos g _ _ _ := by
    rcases keyOf g.2 with _ | (_ | (i | i))
    · exact Nat.one_pos
    · exact Nat.one_pos
    · exact cnt_pos i
    · exact cnt_pos i

instance plan1_storable (g : GSem nD τ sig) (r : ℕ) (d : Duty) :
    BI.Storable (upEmb : UEmb _ 𝕄) ((plan1 X W).payload g r d) := payOf_storable X W g.1.1 d (keyOf g.2)

theorem duties_at (c : Dev nD) (k : Key) : (plan1 X W).duties (cell c k) 0 = dutOf (some k) := by
  dsimp only [plan1]; rw [if_pos ⟨rfl, rfl⟩, keyOf_csem]
theorem duties_later (g : GSem nD τ sig) : ∀ r, 1 ≤ r → (plan1 X W).duties g r = ∅ :=
  fun r hr => by dsimp only [plan1]; rw [if_neg fun h => by omega]
theorem amount_at (c : Dev nD) (k : Key) (d : Duty) : (plan1 X W).amount (cell c k) 0 d = amtOf (some k) := by
  dsimp only [plan1]; rw [keyOf_csem]
theorem payload_at (c : Dev nD) (k : Key) (d : Duty) : (plan1 X W).payload (cell c k) 0 d = payOf X W c d (some k) := by
  dsimp only [plan1]; rw [keyOf_csem]

theorem duties_bar (c : Dev nD) : (plan1 X W).duties (barCell c) 0 = Finset.univ := duties_at X W c (.inl ())
theorem duties_send (c : Dev nD) (i : Msg) : (plan1 X W).duties (sendCell c i) 0 = {(false, false)} := duties_at X W c (.inr (.inl i))
theorem duties_recv (c : Dev nD) (i : Msg) : (plan1 X W).duties (recvCell c i) 0 = {(false, false)} := duties_at X W c (.inr (.inr i))
theorem amount_bar (c : Dev nD) (d : Duty) : (plan1 X W).amount (barCell c) 0 d = 1 := amount_at X W c (.inl ()) d
theorem amount_send (c : Dev nD) (i : Msg) (d : Duty) : (plan1 X W).amount (sendCell c i) 0 d = cnt i := amount_at X W c (.inr (.inl i)) d
theorem amount_recv (c : Dev nD) (i : Msg) (d : Duty) : (plan1 X W).amount (recvCell c i) 0 d = cnt i := amount_at X W c (.inr (.inr i)) d
theorem payload_bar (c : Dev nD) (d : Duty) : (plan1 X W).payload (barCell c) 0 d = barPay d c := payload_at X W c (.inl ()) d
theorem payload_send (c : Dev nD) (i : Msg) (d : Duty) : (plan1 X W).payload (sendCell c i) 0 d = stAny c i := payload_at X W c (.inr (.inl i)) d
theorem payload_recv (c : Dev nD) (i : Msg) (d : Duty) :
    (plan1 X W).payload (recvCell c i) 0 d = rvHas c i (msg X W i (pv (lane i) c)) := payload_at X W c (.inr (.inr i)) d

theorem expect_bar (c : Dev nD) : (plan1 X W).expect (barCell c) 0 = 4 := by
  unfold Schedule.expect Schedule.amountOf
  rw [duties_bar, Finset.sum_congr rfl fun d _ => amount_bar X W c d]
  rfl
theorem expect_send (c : Dev nD) (i : Msg) : (plan1 X W).expect (sendCell c i) 0 = cnt i := by
  unfold Schedule.expect Schedule.amountOf
  rw [duties_send, Finset.sum_congr rfl fun d _ => amount_send X W c i d]
  exact Finset.sum_singleton _ _
theorem expect_recv (c : Dev nD) (i : Msg) : (plan1 X W).expect (recvCell c i) 0 = cnt i := by
  unfold Schedule.expect Schedule.amountOf
  rw [duties_recv, Finset.sum_congr rfl fun d _ => amount_recv X W c i d]
  exact Finset.sum_singleton _ _

theorem rest_bar (c : Dev nD) :
    bigSep ((plan1 X W).duties (barCell c) 0 \ ∅) (fun d => (plan1 X W).payload (barCell c) 0 d) = bigSep Finset.univ fun p => barPay p c := by
  rw [Finset.sdiff_empty, duties_bar, bigSep_congr fun d _ => payload_bar X W c d]
theorem rest_send (c : Dev nD) (i : Msg) :
    bigSep ((plan1 X W).duties (sendCell c i) 0 \ ∅) (fun d => (plan1 X W).payload (sendCell c i) 0 d) = stAny c i := by
  rw [Finset.sdiff_empty, duties_send, bigSep_congr fun d _ => payload_send X W c i d]
  exact bigSep_singleton
theorem rest_recv (c : Dev nD) (i : Msg) :
    bigSep ((plan1 X W).duties (recvCell c i) 0 \ ∅) (fun d => (plan1 X W).payload (recvCell c i) 0 d)
      = rvHas c i (msg X W i (pv (lane i) c)) := by
  rw [Finset.sdiff_empty, duties_recv, bigSep_congr fun d _ => payload_recv X W c i d]
  exact bigSep_singleton

/-! ## The cells' records -/

/-- Every cell's invariant and that it has reached its round. -/
def records (K : Dev nD × Key → ℕ) : sProp 𝕄 :=
  iprop((bigSep Finset.univ fun ck : Dev nD × Key => cellInv ER (plan1 X W) (K ck) (cell ck.1 ck.2))
    ∗ bigSep Finset.univ fun ck : Dev nD × Key => reached ER (cell ck.1 ck.2) 0)

instance records_persistent (K : Dev nD × Key → ℕ) : BI.Persistent (records X W K) := by unfold records; infer_instance

theorem inv_at (K : Dev nD × Key → ℕ) (c : Dev nD) (k : Key) : records X W K ⊢ cellInv ER (plan1 X W) (K (c, k)) (cell c k) := by
  unfold records
  exact sep_elim_left.trans
    (bigSep_elim (Φ := fun ck : Dev nD × Key => cellInv ER (plan1 X W) (K ck) (cell ck.1 ck.2)) (Finset.mem_univ (c, k)))
theorem reached_at (K : Dev nD × Key → ℕ) (c : Dev nD) (k : Key) : records X W K ⊢ reached ER (cell c k) 0 := by
  unfold records
  exact sep_elim_right.trans
    (bigSep_elim (Φ := fun ck : Dev nD × Key => (reached ER (cell ck.1 ck.2) 0 : sProp 𝕄)) (Finset.mem_univ (c, k)))

end

/-! ## What is owed, and the levels -/

/-- What device `c` still owes the receivers of its messages numbered `k` and up. -/
def owed (c : Dev nD) (k : ℕ) : CellTallies nD τ sig Unit :=
  ∑ i ∈ Finset.univ.filter (fun i : Msg => k ≤ num i), tallyAt (recvCell (nx (lane i) c) i) () (cnt i)

/-- The messages numbered `k` and up; -/
abbrev from_ (k : ℕ) : Finset Msg := Finset.univ.filter fun i => k ≤ num i
/-- and below `k`. -/
abbrev upto (k : ℕ) : Finset Msg := Finset.univ.filter fun i => num i < k

theorem mem_from {i : Msg} {k : ℕ} (h : num i = k) : i ∈ from_ k := Finset.mem_filter.mpr ⟨Finset.mem_univ _, h.ge⟩
theorem erase_from {i : Msg} {k : ℕ} (h : num i = k) : (from_ k).erase i = from_ (k + 1) := by
  ext j
  rw [Finset.mem_erase, Finset.mem_filter, Finset.mem_filter]
  constructor
  · rintro ⟨h1, -, h2⟩
    exact ⟨Finset.mem_univ _, lt_of_le_of_ne h2 fun e => h1 (num_inj _ _ (by omega))⟩
  · rintro ⟨-, h2⟩
    exact ⟨fun e => by subst e; omega, Finset.mem_univ _, by omega⟩
theorem not_mem_upto {i : Msg} {k : ℕ} (h : num i = k) : i ∉ upto k := fun h' => by
  have := (Finset.mem_filter.mp h').2; omega
theorem insert_upto {i : Msg} {k : ℕ} (h : num i = k) : insert i (upto k) = upto (k + 1) := by
  ext j
  rw [Finset.mem_insert, Finset.mem_filter, Finset.mem_filter]
  constructor
  · rintro (rfl | ⟨-, h2⟩)
    · exact ⟨Finset.mem_univ _, by omega⟩
    · exact ⟨Finset.mem_univ _, by omega⟩
  · rintro ⟨-, h2⟩
    by_cases e : j = i
    · exact .inl e
    · exact .inr ⟨Finset.mem_univ _, lt_of_le_of_ne (Nat.lt_succ_iff.mp h2) fun e' => e (num_inj _ _ (by omega))⟩
theorem from_zero : from_ 0 = Finset.univ := Finset.filter_true_of_mem fun _ _ => Nat.zero_le _
theorem upto_zero : upto 0 = ∅ := Finset.filter_false_of_mem fun _ _ => by omega
theorem num_lt : ∀ i : Msg, num i < 40 := by decide +kernel
theorem from_end : from_ 40 = ∅ := Finset.filter_false_of_mem fun i _ => by have := num_lt i; omega
theorem upto_end : upto 40 = Finset.univ := Finset.filter_true_of_mem fun i _ => num_lt i

theorem owed_step (c : Dev nD) {i : Msg} {k : ℕ} (h : num i = k) :
    owed c k = owed c (k + 1) + tallyAt (recvCell (nx (lane i) c) i) () (cnt i) := by
  unfold owed
  rw [show (Finset.univ.filter fun i : Msg => k + 1 ≤ num i) = (from_ k).erase i from (erase_from h).symm]
  exact (Finset.sum_erase_add _ _ (mem_from h)).symm
theorem owed_end (c : Dev nD) : owed c 40 = 0 := by
  unfold owed
  rw [show (Finset.univ.filter fun i : Msg => 40 ≤ num i) = ∅ from from_end, Finset.sum_empty]

/-- What device `c` owes when it starts: its four neighbours' barriers a unit each, and all its messages. -/
def O₀ (c : Dev nD) : CellTallies nD τ sig Unit :=
  (((owed c 0 + tallyAt (barCell (pv (true, true) c)) () 1) + tallyAt (barCell (pv (true, false) c)) () 1)
    + tallyAt (barCell (pv (false, true) c)) () 1) + tallyAt (barCell (pv (false, false) c)) () 1

def L (g : GSem nD τ sig) : Finset Unit := if g.1.2 = .tc then {()} else ∅
def lvOf : Option Key → ℕ
  | none => 0
  | some (.inl _) => 1
  | some (.inr (.inl _)) => 0
  | some (.inr (.inr i)) => 2 + num i
/-- The levels: the barrier's, then the receive semaphores' in the order of the messages. -/
def lv (g : GSem nD τ sig) (_ : Unit) : ℕ := lvOf (keyOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Key) (u : Unit) : lv (cell c k) u = lvOf (some k) := by
  unfold lv; rw [keyOf_csem]

theorem sum_tally_pos {A : Finset Msg} {f : Msg → CellTallies nD τ sig Unit} {g : GSem nD τ sig} {u : Unit}
    (h : 0 < (∑ i ∈ A, f i) g u) : ∃ i ∈ A, 0 < f i g u := by
  rw [Finset.sum_apply, Finsupp.finset_sum_apply] at h
  by_contra hn
  refine absurd h (Nat.not_lt.mpr (Nat.le_of_eq (Finset.sum_eq_zero fun i hi => ?_)))
  by_contra h0
  exact hn ⟨i, hi, Nat.pos_of_ne_zero h0⟩

theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem owed_pos {c : Dev nD} {k : ℕ} {g : GSem nD τ sig} {u : Unit} (h : 0 < owed c k g u) :
    ∃ i, k ≤ num i ∧ g = recvCell (nx (lane i) c) i := by
  obtain ⟨i, hi, hg⟩ := sum_tally_pos h
  exact ⟨i, (Finset.mem_filter.mp hi).2, tally_pos hg⟩

theorem add_tally_pos {A B : CellTallies nD τ sig Unit} {g : GSem nD τ sig} {u : Unit} (h : 0 < (A + B) g u) : 0 < A g u ∨ 0 < B g u := by
  rw [Pi.add_apply, Finsupp.add_apply] at h
  omega

theorem O₀_pos {c : Dev nD} {g : GSem nD τ sig} {u : Unit} (h : 0 < O₀ c g u) : ∃ c' k, g = cell c' k ∧ 0 < lvOf (some k) := by
  unfold O₀ at h
  rcases add_tally_pos h with h | h
  · rcases add_tally_pos h with h | h
    · rcases add_tally_pos h with h | h
      · rcases add_tally_pos h with h | h
        · obtain ⟨i, -, hi⟩ := owed_pos h
          exact ⟨_, .inr (.inr i), hi, by show 0 < 2 + num i; omega⟩
        · exact ⟨_, .inl (), tally_pos h, Nat.one_pos⟩
      · exact ⟨_, .inl (), tally_pos h, Nat.one_pos⟩
    · exact ⟨_, .inl (), tally_pos h, Nat.one_pos⟩
  · exact ⟨_, .inl (), tally_pos h, Nat.one_pos⟩

/-- A device may wait at a semaphore below everything it owes. -/
theorem mayWait_below (c : Dev nD) (s : SemLoc sig) (O : CellTallies nD τ sig Unit) (b : ℕ) (hb : lv ((c : Thread nD τ), s) () ≤ b)
    (hO : ∀ g u, 0 < O g u → ∃ c' k, g = cell c' k ∧ b < lvOf (some k)) :
    (levAts L lv : sProp 𝕄) ⊢ MayWait (c : Thread nD τ) s () O :=
  MayOwe.of_cut (L := L) (lev := lv) b (fun p hp => by rw [Finset.mem_singleton.mp hp, L_tc]; exact Finset.mem_singleton_self _)
    (fun g u hg => by obtain ⟨c', k, rfl, -⟩ := hO g u hg; exact Finset.mem_singleton_self _)
    (fun p hp => by rw [Finset.mem_singleton.mp hp]; exact hb)
    (fun g u hg => by obtain ⟨c', k, rfl, h⟩ := hO g u hg; rw [lv_at]; exact h)

theorem mayWait_recv (c : Dev nD) (i : Msg) (k : ℕ) (h : num i < k) :
    (levAts L lv : sProp 𝕄) ⊢ MayWait (c : Thread nD τ) (.dma (chd i).rs) () (owed c k) :=
  mayWait_below c _ _ (2 + num i) (lv_at c (.inr (.inr i)) ()).le fun g u hg => by
    obtain ⟨j, hj, rfl⟩ := owed_pos hg
    exact ⟨_, .inr (.inr j), rfl, by show 2 + num i < 2 + num j; omega⟩

theorem mayWait_bar (c : Dev nD) : (levAts L lv : sProp 𝕄) ⊢ MayWait (c : Thread nD τ) (.reg barS) () (owed c 0) :=
  mayWait_below c _ _ 1 (lv_at c (.inl ()) ()).le fun g u hg => by
    obtain ⟨j, hj, rfl⟩ := owed_pos hg
    exact ⟨_, .inr (.inr j), rfl, by show 1 < 2 + num j; omega⟩

/-- A semaphore the kernel does not name may be waited at whatever is owed at the start. -/
theorem mayWait_stage (c : Dev nD) (s : SemLoc sig) (hs : ∀ k, csem k ≠ s) (O : CellTallies nD τ sig Unit) (hO : O = O₀ c ∨ O = 0) :
    (levAts L lv : sProp 𝕄) ⊢ MayWait (c : Thread nD τ) s () O := by
  rcases hO with rfl | rfl
  · refine mayWait_below c s _ 0 (le_of_eq ?_) fun g u hg => O₀_pos hg
    unfold lv keyOf
    rw [dif_neg (by rintro ⟨k, hk⟩; exact hs k hk)]
    rfl
  · rw [MayWait_zero]; iintro -; iempintro

end Cert.KernelIdeal.Gen

end
-- ==== Proof.KernelIdeal.Steps.lean ====
module

public import proofs.«01_k».proof.Proof.KernelIdeal.Cells
public import Idealize.ShloMosaic.Lib.ViewIndex

/-! The steps of the kernel, each from what a device holds before it to what it holds after it. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A run of a program on device `c`, ending in `Kt`. -/
abbrev WP (c : Dev nD) (p : P F) (Kt : PUnit → sProp 𝕄) : sProp 𝕄 :=
  wp frame (wpE (defs₀ (F := F)) 𝒱₀ (c : Thread nD τ) none) Set.univ p Kt

/-! ## What a message's slots hold -/

/-- After a transfer the receiving slot holds what the sending slot did. -/
theorem landed (C : Chan) (fd : C.rv.view.ty.Contents (Elt F)) (fs : C.st.view.ty.Contents (Elt F)) :
    (C.rv.access C.r).read (Elt F) (C.rvv.view.write (Elt F) fd (C.stv.view.read (Elt F) fs) Finset.univ)
      = (C.st.access C.r).read (Elt F) fs := by
  funext x
  obtain ⟨y, rfl⟩ := (Shape.reshapeEquiv C.sq.numel_eq).surjective x
  exact View.read_write_reshape (C.rv.access C.r) C.sq.numel_eq fd (C.stv.view.read (Elt F) fs) y

theorem stv_set (C : Chan) : C.stv.view.set = stSet C := View.set_reshape _ _
theorem rvv_set (C : Chan) : C.rvv.view.set = rvSet C := View.set_reshape _ _

/-! ## What a device holds between steps -/

/-- For a message yet to be sent: both slots, the send semaphore's round, and both duties. -/
def toSend (c : Dev nD) (i : Msg) : sProp 𝕄 :=
  iprop(stAny c i ∗ rvAny (nx (lane i) c) i ∗ atPos ER (sendCell c i) 0 ∅ 0
    ∗ dutyTok ER (sendCell c i) 0 (false, false) ∗ dutyTok ER (recvCell (nx (lane i) c) i) 0 (false, false))
/-- For a message sent: the credit on its send semaphore. -/
def sent (c : Dev nD) (i : Msg) : sProp 𝕄 :=
  iprop(cred (tallyAt (sendCell c i) () (cnt i)) ∗ atPos ER (sendCell c i) 0 ∅ 0)
/-- Once that has been waited for: the slot and the semaphore, at zero. -/
def drained (c : Dev nD) (i : Msg) : sProp 𝕄 := iprop(stAny c i ∗ semVal (sendCell c i) 0)
/-- For a message yet to be taken in: the credit on its receive semaphore. -/
def toGet (c : Dev nD) (i : Msg) : sProp 𝕄 :=
  iprop(cred (tallyAt (recvCell c i) () (cnt i)) ∗ atPos ER (recvCell c i) 0 ∅ 0)
/-- For one taken in: its slot and the semaphore, at zero. -/
def gotten (c : Dev nD) (i : Msg) : sProp 𝕄 := iprop(rvAny c i ∗ semVal (recvCell c i) 0)

/-- After `k` sends and `j` messages taken in. -/
def St (c : Dev nD) (k j : ℕ) : sProp 𝕄 :=
  iprop((∃ O, owes (c : Thread nD τ) (owed c k) O) ∗ bigSep (from_ k) (toSend c) ∗ bigSep (upto k) (sent c)
    ∗ bigSep (from_ j) (toGet c) ∗ bigSep (upto j) (gotten c))

theorem take_from {k : ℕ} {i : Msg} (h : num i = k) (Φ : Msg → sProp 𝕄) :
    bigSep (from_ k) Φ = iprop(Φ i ∗ bigSep (from_ (k + 1)) Φ) := by
  rw [bigSep_erase (mem_from h), erase_from h]; rfl
theorem put_upto {k : ℕ} {i : Msg} (h : num i = k) (Φ : Msg → sProp 𝕄) :
    bigSep (upto (k + 1)) Φ = iprop(Φ i ∗ bigSep (upto k) Φ) := by
  rw [← insert_upto h, bigSep_insert (not_mem_upto h)]; rfl

section
variable (X : Dev nD → Vec F S2048x64 .f32) (W : Dev nD → Vec F S64x2048 .f32) (K : Dev nD × Key → ℕ)

/-- What every step may use: the cells' records and the levels. -/
def ctx : sProp 𝕄 := iprop(records X W K ∗ levAts L lv)
instance ctx_persistent : BI.Persistent (ctx X W K) := by unfold ctx; infer_instance

theorem ctx_inv (c : Dev nD) (k : Key) : ctx X W K ⊢ cellInv ER (plan1 X W) (K (c, k)) (cell c k) := by
  unfold ctx; exact sep_elim_left.trans (inv_at X W K c k)
theorem ctx_reached (c : Dev nD) (k : Key) : ctx X W K ⊢ reached ER (cell c k) 0 := by
  unfold ctx; exact sep_elim_left.trans (reached_at X W K c k)
theorem ctx_lev : ctx X W K ⊢ levAts L lv := by
  unfold ctx; exact sep_elim_right

theorem ctx_wait (c : Dev nD) (i : Msg) {k : ℕ} (h : num i < k) :
    ctx X W K ⊢ MayWait (c : Thread nD τ) (.dma (chd i).rs) () (owed c k) := by
  unfold ctx
  exact sep_elim_right.trans (mayWait_recv (F := F) c i k h)

/-! ## The messages' steps -/

/-- A transfer between a message's two slots, the schedule's facts about its two semaphores given. -/
theorem wp_xfer_of (C : Chan) (c n : Dev nD) (Rd : Rounds.Schedule (GSem nD τ sig) Duty 𝕄)
    [∀ g r d, BI.Storable (upEmb : UEmb _ 𝕄) (Rd.payload g r d)] {κ₁ κ₂ : ℕ}
    (hd₁ : (false, false) ∈ Rd.duties ((c : Thread nD τ), .dma C.ss) 0)
    (hd₂ : (false, false) ∈ Rd.duties ((n : Thread nD τ), .dma C.rs) 0)
    (hk₁ : Rd.amount ((c : Thread nD τ), .dma C.ss) 0 (false, false) = C.rvv.view.dmaCredit)
    (hk₂ : Rd.amount ((n : Thread nD τ), .dma C.rs) 0 (false, false) = C.rvv.view.dmaCredit)
    {O₁ : CellTallies nD τ sig Unit} (O₂ : CellTallies nD τ sig Unit)
    (hO : O₁ = O₂ + tallyAt ((n : Thread nD τ), .dma C.rs) () C.rvv.view.dmaCredit)
    {hsc : C.rvv.view.ref.isScScratch = false}
    {hsrc : C.stv.view.WordExact} {hdst : C.rvv.view.WordExact}
    {hsem : DmaTarget.Typed .vmem (.dma C.rs) (.remote (Dev.tc n : Thread nD τ) C.rvv (.dma C.ss) hsc)}
    {Q : PUnit → sProp 𝕄} {p : PUnit → P F} (fs : Buf (Elt F) (C.st.view.loc (c : Thread nD τ)))
    (fd : Buf (Elt F) (C.rv.view.loc (n : Thread nD τ))) (O : Waits sig Unit)
    (hp₁ : (C.st.view.loc (c : Thread nD τ) ↦[stSet C]{fullShare} fs) ⊢ Rd.payload ((c : Thread nD τ), .dma C.ss) 0 (false, false))
    (hp₂ : ∀ g : Buf (Elt F) (C.rv.view.loc (n : Thread nD τ)),
      (C.rv.access C.r).read (Elt F) g = (C.st.access C.r).read (Elt F) fs →
      (C.rv.view.loc (n : Thread nD τ) ↦[rvSet C]{fullShare} g) ⊢ Rd.payload ((n : Thread nD τ), .dma C.rs) 0 (false, false)) :
    iprop(cellInv ER Rd κ₁ ((c : Thread nD τ), .dma C.ss) ∗ cellInv ER Rd κ₂ ((n : Thread nD τ), .dma C.rs)
        ∗ (C.st.view.loc (c : Thread nD τ) ↦[stSet C]{fullShare} fs)
        ∗ (C.rv.view.loc (n : Thread nD τ) ↦[rvSet C]{fullShare} fd)
        ∗ owes (c : Thread nD τ) O₁ O
        ∗ dutyTok ER ((c : Thread nD τ), .dma C.ss) 0 (false, false) ∗ reached ER ((c : Thread nD τ), .dma C.ss) 0
        ∗ dutyTok ER ((n : Thread nD τ), .dma C.rs) 0 (false, false) ∗ reached ER ((n : Thread nD τ), .dma C.rs) 0)
      ⊢ iprop(((cred (tallyAt ((c : Thread nD τ), .dma C.ss) () C.rvv.view.dmaCredit) ∗ owes (c : Thread nD τ) O₂ O) -∗ WP c (p ⟨⟩) Q)
          -∗ WP c (.op (.enqueueDma C.stv (.remote (Dev.tc n : Thread nD τ) C.rvv (.dma C.ss) hsc) (.dma C.rs) hsrc hdst hsem) p) Q) := by
  have hp₁' : (C.stv.view.loc (c : Thread nD τ) ↦[C.stv.view.set]{fullShare} fs) ⊢ Rd.payload ((c : Thread nD τ), .dma C.ss) 0 (false, false) := by
    rw [stv_set]; exact hp₁
  have hp₂' : (C.rvv.view.loc (n : Thread nD τ) ↦[C.rvv.view.set]{fullShare} (C.rvv.view.write (Elt F) fd (C.stv.view.read (Elt F) fs) Finset.univ))
      ⊢ Rd.payload ((n : Thread nD τ), .dma C.rs) 0 (false, false) := by
    rw [rvv_set]; exact hp₂ _ (landed C fd fs)
  rw [← stv_set, ← rvv_set]
  have key := Rounds.wp_send_pointsTo 𝒱₀ ER Rd (c : Thread nD τ) none (κ₁ := κ₁) (κ₂ := κ₂)
    (c' := (n : Thread nD τ)) (r₁ := 0) (r₂ := 0) (d₁ := (false, false)) (d₂ := (false, false)) (fd := fd) (fs := fs)
    hd₁ hd₂ () () C.rvv.view.dmaCredit rfl hk₁ hk₂ O₂ hO (W := O) hp₁' hp₂' (hr := Topo.routes_tc c n) (hsc := hsc) (hsrc := hsrc) (hdst := hdst) (hsem := hsem) (k := p) (Q := Q) (Es := Set.univ) (defs := defs₀ (F := F)) (Γ := [])
  exact key

/-- The transfer of message `i`. -/
theorem wp_xfer (c n : Dev nD) (i : Msg) (hn : n = nx (lane i) c) {k : ℕ} (hk : num i = k)
    {hsc : (chd i).rvv.view.ref.isScScratch = false}
    {hsrc : (chd i).stv.view.WordExact} {hdst : (chd i).rvv.view.WordExact}
    {hsem : DmaTarget.Typed .vmem (.dma (chd i).rs) (.remote (Dev.tc n : Thread nD τ) (chd i).rvv (.dma (chd i).ss) hsc)}
    {Q : PUnit → sProp 𝕄} {p : PUnit → P F} (fs : Buf (Elt F) ((chd i).st.view.loc (c : Thread nD τ)))
    (hfs : ((chd i).st.access (chd i).r).read (Elt F) fs = msg X W i c)
    (fd : Buf (Elt F) ((chd i).rv.view.loc (nx (lane i) c : Thread nD τ))) (O : Waits sig Unit) :
    iprop(cellInv ER (plan1 X W) (K (c, .inr (.inl i))) (sendCell c i)
        ∗ cellInv ER (plan1 X W) (K (nx (lane i) c, .inr (.inr i))) (recvCell (nx (lane i) c) i)
        ∗ ((chd i).st.view.loc (c : Thread nD τ) ↦[stSet (chd i)]{fullShare} fs)
        ∗ ((chd i).rv.view.loc (nx (lane i) c : Thread nD τ) ↦[rvSet (chd i)]{fullShare} fd)
        ∗ owes (c : Thread nD τ) (owed c k) O
        ∗ dutyTok ER (sendCell c i) 0 (false, false) ∗ reached ER (sendCell c i) 0
        ∗ dutyTok ER (recvCell (nx (lane i) c) i) 0 (false, false) ∗ reached ER (recvCell (nx (lane i) c) i) 0)
      ⊢ iprop(((cred (tallyAt (sendCell c i) () (cnt i)) ∗ owes (c : Thread nD τ) (owed c (k + 1)) O) -∗ WP c (p ⟨⟩) Q)
          -∗ WP c (.op (.enqueueDma (chd i).stv (.remote (Dev.tc n : Thread nD τ) (chd i).rvv (.dma (chd i).ss) hsc) (.dma (chd i).rs) hsrc hdst hsem) p) Q) := by
  subst hn
  exact wp_xfer_of (chd i) c (nx (lane i) c) (plan1 X W)
    (by rw [duties_send]; exact Finset.mem_singleton_self _) (by rw [duties_recv]; exact Finset.mem_singleton_self _)
    (amount_send X W c i _) (amount_recv X W (nx (lane i) c) i _) (owed c (k + 1)) (owed_step c hk) fs fd O
    (by
      rw [payload_send]
      unfold stAny
      iintro H; iexists fs; iexact H)
    (fun g hg => by
      rw [payload_recv]
      unfold rvHas
      rw [pv_nx]
      iintro H
      iexists g
      isplitr
      · ipureintro
        exact hg.trans hfs
      · iexact H)

/-- Sending message `i`. -/
theorem wp_put (c : Dev nD) (i : Msg) {k j : ℕ} (hk : num i = k) (v : Vec F (chd i).r.shape .bf16) (hv : v = msg X W i c)
    (p : P F) (Kt : PUnit → sProp 𝕄) :
    iprop(ctx X W K ∗ St c k j ∗ (St c (k + 1) j -∗ WP c p Kt)) ⊢ WP c ((chd i).put c v p) Kt := by
  unfold Chan.put St
  rw [take_from hk, put_upto hk]
  unfold toSend
  iintro ⟨#Hc, ⟨⟨%O, HO⟩, ⟨Hhead, Hts⟩, Hsn, Hg⟩, Hk⟩
  icases Hhead with ⟨Hst, Hrv, Hat, Ht1, Ht2⟩
  unfold stAny rvAny
  icases Hst with ⟨%fs, Hst⟩
  icases Hrv with ⟨%fd, Hrv⟩
  iapply (wp_load_rect 𝒱₀ (c : Thread nD τ) none Set.univ (m := (chd i).st) (r := (chd i).r) (S := stSet (chd i)) (Finset.Subset.refl _)) $$ Hst
  iintro Hst
  iapply (wp_store 𝒱₀ (c : Thread nD τ) none Set.univ (m := (chd i).st) (r := (chd i).r) (Mk := Finset.univ) (S := stSet (chd i)) (Finset.Subset.refl _)) $$ Hst
  iintro Hst
  iapply (wp_xfer X W K c _ i (dev_chd i c) hk _ ((View.read_write_univ _ _).trans hv) fd O) $$ [Hst Hrv HO Ht1 Ht2]
  · isplitr; · iapply (ctx_inv X W K c (.inr (.inl i))); iexact Hc
    isplitr; · iapply (ctx_inv X W K (nx (lane i) c) (.inr (.inr i))); iexact Hc
    isplitl [Hst]; · iexact Hst
    isplitl [Hrv]; · iexact Hrv
    isplitl [HO]; · iexact HO
    isplitl [Ht1]; · iexact Ht1
    isplitr; · iapply (ctx_reached X W K c (.inr (.inl i))); iexact Hc
    isplitl [Ht2]; · iexact Ht2
    iapply (ctx_reached X W K (nx (lane i) c) (.inr (.inr i))); iexact Hc
  iintro ⟨Hcr, HO⟩
  iapply Hk
  isplitl [HO]; · iexists O; iexact HO
  isplitl [Hts]; · iexact Hts
  isplitl [Hcr Hat Hsn]
  · isplitl [Hcr Hat]
    · unfold sent; isplitl [Hcr] <;> iassumption
    · iexact Hsn
  iexact Hg

/-- Taking message `i` in. -/
theorem wp_get (c : Dev nD) (i : Msg) {k j : ℕ} (hj : num i = j) (hjk : j < k)
    (p : Vec F (chd i).r.shape .bf16 → P F) (Kt : PUnit → sProp 𝕄) :
    iprop(ctx X W K ∗ St c k j ∗ (St c k (j + 1) -∗ WP c (p (msg X W i (pv (lane i) c))) Kt)) ⊢ WP c ((chd i).get p) Kt := by
  have hmw := ctx_wait X W K c i (hj.trans_lt hjk)
  unfold Chan.get St
  rw [take_from hj, put_upto hj]
  unfold toGet
  iintro ⟨#Hc, ⟨⟨%O, HO⟩, Hts, Hsn, ⟨Hhead, Htg⟩, Hg⟩, Hk⟩
  icases Hhead with ⟨Hcr, Hat⟩
  iapply (Rounds.wp_wait_rest_token 𝒱₀ ER (plan1 X W) (c : Thread nD τ) none (κ := K (c, .inr (.inr i))) (sm := .dma (chd i).rs)
      (wpE_waitDma2_eq 𝒱₀ (c : Thread nD τ) none Set.univ) (Set.mem_univ _) () (O := owed c k) (W := O) (R := 0) (m := 0) (T := ∅)
      (k' := cnt i) ((Nat.zero_add _).trans (expect_recv X W c i).symm)) $$ [Hcr HO Hat]
  · isplitr; · iapply (ctx_inv X W K c (.inr (.inr i))); iexact Hc
    isplitl [Hcr]; · iexact Hcr
    isplitl [HO]; · iexact HO
    isplitr
    · iapply hmw; iexact Hc
    iexact Hat
  iintro ⟨HO, Hat, -, Hpay⟩
  ihave Hp := (Entails.of_eq (rest_recv X W c i)) $$ Hpay
  imod (Rounds.cell_close ER (plan1 X W) (Set.mem_univ (K (c, .inr (.inr i)))) (fun h => h) (R := 0 + 1) (duties_later X W (recvCell c i))) $$ [Hat] with Hz
  · isplitr; · iapply (ctx_inv X W K c (.inr (.inr i))); iexact Hc
    iexact Hat
  unfold rvHas
  icases Hp with ⟨%f, %hf, Hrv⟩
  iapply (wp_load_rect 𝒱₀ (c : Thread nD τ) none Set.univ (m := (chd i).rv) (r := (chd i).r) (S := rvSet (chd i)) (Finset.Subset.refl _)) $$ Hrv
  iintro Hrv
  rw [hf]
  iapply Hk
  isplitl [HO]; · iexists _; iexact HO
  isplitl [Hts]; · iexact Hts
  isplitl [Hsn]; · iexact Hsn
  isplitl [Htg]; · iexact Htg
  isplitl [Hrv Hz]
  · unfold gotten rvAny; isplitl [Hrv]
    · iexists f; iexact Hrv
    · iexact Hz
  iexact Hg

/-- Waiting for the send of message `i` to be over, nothing owed. -/
theorem wp_drain (c : Dev nD) (i : Msg) (p : P F) (Kt : PUnit → sProp 𝕄) :
    iprop(ctx X W K ∗ (∃ O, owes (c : Thread nD τ) 0 O) ∗ sent c i ∗ (((∃ O, owes (c : Thread nD τ) 0 O) ∗ drained c i) -∗ WP c p Kt))
      ⊢ WP c ((chd i).drain p) Kt := by
  unfold Chan.drain sent
  iintro ⟨#Hc, ⟨%O, HO⟩, ⟨Hcr, Hat⟩, Hk⟩
  iapply (Rounds.wp_wait_rest_token 𝒱₀ ER (plan1 X W) (c : Thread nD τ) none (κ := K (c, .inr (.inl i))) (sm := .dma (chd i).ss)
      (wpE_waitDma2_eq 𝒱₀ (c : Thread nD τ) none Set.univ) (Set.mem_univ _) () (O := 0) (W := O) (R := 0) (m := 0) (T := ∅)
      (by rw [expect_send, Nat.zero_add]; exact cnt_st i)) $$ [Hcr HO Hat]
  · isplitr; · iapply (ctx_inv X W K c (.inr (.inl i))); iexact Hc
    isplitl [Hcr]
    · ihave Hcr' := (Entails.of_eq (congrArg (fun n => (cred (tallyAt (sendCell c i) () n) : sProp 𝕄)) (cnt_st i).symm)) $$ Hcr
      iexact Hcr'
    isplitl [HO]; · iexact HO
    isplitr; · rw [MayWait_zero]; iempintro
    iexact Hat
  iintro ⟨HO, Hat, -, Hpay⟩
  ihave Hp := (Entails.of_eq (rest_send X W c i)) $$ Hpay
  imod (Rounds.cell_close ER (plan1 X W) (Set.mem_univ (K (c, .inr (.inl i)))) (fun h => h) (R := 0 + 1) (duties_later X W (sendCell c i))) $$ [Hat] with Hz
  · isplitr; · iapply (ctx_inv X W K c (.inr (.inl i))); iexact Hc
    iexact Hat
  iapply Hk
  isplitl [HO]; · iexists _; iexact HO
  unfold drained
  isplitl [Hp] <;> iassumption

end

end Cert.KernelIdeal.Gen

end
-- ==== Proof.KernelIdeal.Body.lean ====
module

public import proofs.«01_k».proof.Proof.KernelIdeal.Steps

/-! The two phases run from what a device holds after the barrier to its result. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Buffers known on a set of their elements -/

/-- Device `c` holds the whole of a buffer, which on `S` holds `G`. -/
def holds {s : Shape} (M : Memref sig .tc .vmem s .f32) (c : Dev nD) (S : Finset s.Idx) (G : s.Idx → F .f32) : sProp 𝕄 :=
  iprop(∃ f : Buf (Elt F) (M.view.loc (c : Thread nD τ)), ⌜∀ i ∈ S, M.view.read (Elt F) f i = G i⌝
    ∗ (M.view.loc (c : Thread nD τ) ↦[M.view.set]{fullShare} f))

section
variable {s : Shape} (M : Memref sig .tc .vmem s .f32) (c : Dev nD)

/-- Loading a rectangle of it on which its contents are known; -/
theorem wp_load_known (r : Rect s) {hl : M.view.LoadsAt r.toLoadRect} (S : Finset s.Idx) (G : s.Idx → F .f32) (hS : r.set ⊆ S)
    (p : Vec F r.shape .f32 → P F) (Kt : PUnit → sProp 𝕄) :
    iprop(holds M c S G ∗ (holds M c S G -∗ WP c (p (part r G)) Kt)) ⊢ WP c (.op (.load M r.toLoadRect hl) p) Kt := by
  unfold holds
  iintro ⟨⟨%f, %hf, Hf⟩, Hk⟩
  have hr : (M.access r).read (Elt F) f = part r G := funext fun j =>
    hf _ (hS (by rw [← Rect.map_emb_univ]; exact Finset.mem_map_of_mem _ (Finset.mem_univ j)))
  iapply (wp_load_rect 𝒱₀ (c : Thread nD τ) none Set.univ (m := M) (r := r) (S := M.view.set) (View.set_slice_subset _ _)) $$ Hf
  iintro Hf
  rw [hr]
  iapply Hk
  iexists f
  isplitr
  · ipureintro; exact hf
  · iexact Hf

/-- loading one that is about to be written; -/
theorem wp_load_any (r : Rect s) {hl : M.view.LoadsAt r.toLoadRect} (S : Finset s.Idx) (G : s.Idx → F .f32)
    (p : P F) (Kt : PUnit → sProp 𝕄) :
    iprop(holds M c S G ∗ (holds M c S G -∗ WP c p Kt)) ⊢ WP c (.op (.load M r.toLoadRect hl) fun _ => p) Kt := by
  unfold holds
  iintro ⟨⟨%f, %hf, Hf⟩, Hk⟩
  iapply (wp_load_rect 𝒱₀ (c : Thread nD τ) none Set.univ (m := M) (r := r) (S := M.view.set) (View.set_slice_subset _ _)) $$ Hf
  iintro Hf
  iapply Hk
  iexists f
  isplitr
  · ipureintro; exact hf
  · iexact Hf

/-- and writing a rectangle with what the buffer is to hold there. -/
theorem wp_store_known (r : Rect s) {hs : (M.access r).Stores Finset.univ} (S : Finset s.Idx) (G : s.Idx → F .f32)
    (v : Vec F r.shape .f32) (hv : v = part r G) {hm}
    (p : P F) (Kt : PUnit → sProp 𝕄) :
    iprop(holds M c S G ∗ (holds M c (S ∪ r.set) G -∗ WP c p Kt)) ⊢ WP c (.op (.store M r v Finset.univ hs hm) fun _ => p) Kt := by
  subst hv
  unfold holds
  iintro ⟨⟨%f, %hf, Hf⟩, Hk⟩
  iapply (wp_store 𝒱₀ (c : Thread nD τ) none Set.univ (m := M) (r := r) (Mk := Finset.univ) (S := M.view.set)
    (View.set_slice_subset M.view r)) $$ Hf
  iintro Hf
  iapply Hk
  iexists _
  isplitr
  swap
  · iexact Hf
  · ipureintro
    intro i hi
    by_cases h : i ∈ Finset.univ.map r.emb
    · obtain ⟨j, -, rfl⟩ := Finset.mem_map.mp h
      exact View.read_slice_write_emb (Val := Elt F) (v := M.view) r f (part r G) (Finset.mem_univ j)
    · refine (View.read_slice_write_of_not_mem (Val := Elt F) (v := M.view) r f (part r G) Finset.univ h).trans (hf i ?_)
      rw [Rect.map_emb_univ] at h
      exact (Finset.mem_union.mp hi).resolve_right h
end

/-! ## The steps -/

section
variable (X : Dev nD → Vec F S2048x64 .f32) (W : Dev nD → Vec F S64x2048 .f32) (K : Dev nD × Key → ℕ)

/-- Sending rows of a buffer; -/
theorem wp_putS (c : Dev nD) (i : Msg) {k j : ℕ} (hk : num i = k) {s : Shape} (M : Memref sig .tc .vmem s .f32) (r : Rect s)
    (hp : 0 < r.shape.numel) (pay : Vec F r.shape .f32 → Vec F (chd i).r.shape .bf16) (S : Finset s.Idx) (G : s.Idx → F .f32)
    (hS : r.set ⊆ S) (hv : pay (part r G) = msg X W i c) (p : P F) (Kt : PUnit → sProp 𝕄) :
    iprop(ctx X W K ∗ St c k j ∗ holds M c S G ∗ ((St c (k + 1) j ∗ holds M c S G) -∗ WP c p Kt))
      ⊢ WP c (putS M r hp (chd i) pay c p) Kt := by
  unfold putS
  iintro ⟨#Hc, HS, HM, Hk⟩
  iapply (wp_load_known M c r S G hS)
  isplitl [HM]; · iexact HM
  iintro HM
  iapply (wp_put X W K c i hk _ hv p Kt)
  isplitr; · iexact Hc
  isplitl [HS]; · iexact HS
  iintro HS
  iapply Hk
  isplitl [HS] <;> iassumption

/-- passing a message on, with rows of a buffer added; -/
theorem wp_hopS (c : Dev nD) (i i' : Msg) {k j : ℕ} (hj : num i = j) (hk : num i' = k) (hjk : j < k) {s : Shape}
    (M : Memref sig .tc .vmem s .f32) (r : Rect s) (hp : 0 < r.shape.numel)
    (pay : Vec F (chd i).r.shape .bf16 → Vec F r.shape .f32 → Vec F (chd i').r.shape .bf16) (S : Finset s.Idx) (G : s.Idx → F .f32)
    (hS : r.set ⊆ S) (hv : pay (msg X W i (pv (lane i) c)) (part r G) = msg X W i' c) (p : P F) (Kt : PUnit → sProp 𝕄) :
    iprop(ctx X W K ∗ St c k j ∗ holds M c S G ∗ ((St c (k + 1) (j + 1) ∗ holds M c S G) -∗ WP c p Kt))
      ⊢ WP c (hopS (chd i) (chd i') M r hp pay c p) Kt := by
  unfold hopS
  iintro ⟨#Hc, HS, HM, Hk⟩
  iapply (wp_get X W K c i hj hjk)
  isplitr; · iexact Hc
  isplitl [HS]; · iexact HS
  iintro HS
  iapply (wp_load_known M c r S G hS)
  isplitl [HM]; · iexact HM
  iintro HM
  iapply (wp_put X W K c i' hk _ hv p Kt)
  isplitr; · iexact Hc
  isplitl [HS]; · iexact HS
  iintro HS
  iapply Hk
  isplitl [HS] <;> iassumption

/-- taking a message in, adding rows of a buffer, and writing what comes of it. -/
theorem wp_outS (c : Dev nD) (i : Msg) {k j : ℕ} (hj : num i = j) (hjk : j < k) {s s' : Shape}
    (M : Memref sig .tc .vmem s .f32) (r : Rect s) (hp : 0 < r.shape.numel)
    (M' : Memref sig .tc .vmem s' .f32) (r' : Rect s') (hp' : 0 < r'.shape.numel) (hs : (M'.access r').Stores Finset.univ)
    (pay : Vec F (chd i).r.shape .bf16 → Vec F r.shape .f32 → Vec F r'.shape .f32) (S : Finset s.Idx) (G : s.Idx → F .f32)
    (S' : Finset s'.Idx) (G' : s'.Idx → F .f32)
    (hS : r.set ⊆ S) (hv : pay (msg X W i (pv (lane i) c)) (part r G) = part r' G') (p : P F) (Kt : PUnit → sProp 𝕄) :
    iprop(ctx X W K ∗ St c k j ∗ holds M c S G ∗ holds M' c S' G'
        ∗ ((St c k (j + 1) ∗ holds M c S G ∗ holds M' c (S' ∪ r'.set) G') -∗ WP c p Kt))
      ⊢ WP c (outS (chd i) M r hp M' r' hp' hs pay p) Kt := by
  unfold outS
  iintro ⟨#Hc, HS, HM, HM', Hk⟩
  iapply (wp_get X W K c i hj hjk)
  isplitr; · iexact Hc
  isplitl [HS]; · iexact HS
  iintro HS
  iapply (wp_load_known M c r S G hS)
  isplitl [HM]; · iexact HM
  iintro HM
  iapply (wp_load_any M' c r' S' G')
  isplitl [HM']; · iexact HM'
  iintro HM'
  iapply (wp_store_known M' c r' S' G' _ hv)
  isplitl [HM']; · iexact HM'
  iintro HM'
  iapply Hk
  isplitl [HS]; · iexact HS
  isplitl [HM] <;> iassumption

/-- A step for each direction and half, each taking `I n` to `I (n + 1)`. -/
theorem wp_quad (c : Dev nD) (f : Bool → Fin 2 → P F → P F) (I : ℕ → sProp 𝕄) (Kt : PUnit → sProp 𝕄)
    (h : ∀ d u p, iprop(ctx X W K ∗ I (2 * d.toNat + u.val) ∗ (I (2 * d.toNat + u.val + 1) -∗ WP c p Kt)) ⊢ WP c (f d u p) Kt)
    (p : P F) : iprop(ctx X W K ∗ I 0 ∗ (I 4 -∗ WP c p Kt)) ⊢ WP c (quad f p) Kt := by
  unfold quad
  have h0 (p : P F) : iprop(ctx X W K ∗ I 0 ∗ (I 1 -∗ WP c p Kt)) ⊢ WP c (f false 0 p) Kt := h false 0 p
  have h1 (p : P F) : iprop(ctx X W K ∗ I 1 ∗ (I 2 -∗ WP c p Kt)) ⊢ WP c (f false 1 p) Kt := h false 1 p
  have h2 (p : P F) : iprop(ctx X W K ∗ I 2 ∗ (I 3 -∗ WP c p Kt)) ⊢ WP c (f true 0 p) Kt := h true 0 p
  have h3 (p : P F) : iprop(ctx X W K ∗ I 3 ∗ (I 4 -∗ WP c p Kt)) ⊢ WP c (f true 1 p) Kt := h true 1 p
  iintro ⟨#Hc, HI, Hk⟩
  iapply (h0 _); isplitr; · iexact Hc
  isplitl [HI]; · iexact HI
  iintro HI
  iapply (h1 _); isplitr; · iexact Hc
  isplitl [HI]; · iexact HI
  iintro HI
  iapply (h2 _); isplitr; · iexact Hc
  isplitl [HI]; · iexact HI
  iintro HI
  iapply (h3 _); isplitr; · iexact Hc
  isplitl [HI]; · iexact HI
  iexact Hk

theorem bigSep_cons {A : Finset Msg} {i : Msg} (h : i ∉ A) (Φ : Msg → sProp 𝕄) :
    bigSep (insert i A) Φ = iprop(Φ i ∗ bigSep A Φ) := bigSep_insert h

/-- Waiting for the sends of a list of messages to be over, nothing owed. -/
theorem wp_drains (c : Dev nD) (p : P F) (Kt : PUnit → sProp 𝕄) (l : List Msg) (hl : l.Nodup) :
    iprop(ctx X W K ∗ (∃ O, owes (c : Thread nD τ) 0 O) ∗ bigSep l.toFinset (sent c)
        ∗ (((∃ O, owes (c : Thread nD τ) 0 O) ∗ bigSep l.toFinset (drained c)) -∗ WP c p Kt))
      ⊢ WP c (l.foldr (fun i k => (chd i).drain k) p) Kt := by
  induction l generalizing Kt with
  | nil =>
    rw [List.toFinset_nil, bigSep_empty, bigSep_empty]
    iintro ⟨#Hc, HO, -, Hk⟩
    iapply Hk
    isplitl [HO]; · iexact HO
    iempintro
  | cons i l ih =>
    obtain ⟨h1, h2⟩ := List.nodup_cons.mp hl
    have hn : i ∉ l.toFinset := fun h => h1 (List.mem_toFinset.mp h)
    rw [List.toFinset_cons, bigSep_cons hn, bigSep_cons hn]
    iintro ⟨#Hc, HO, ⟨Hi, Hl⟩, Hk⟩
    iapply (wp_drain X W K c i)
    isplitr; · iexact Hc
    isplitl [HO]; · iexact HO
    isplitl [Hi]; · iexact Hi
    iintro ⟨HO, Hi⟩
    iapply (ih Kt h2)
    isplitr; · iexact Hc
    isplitl [HO]; · iexact HO
    isplitl [Hl]; · iexact Hl
    iintro ⟨HO, Hl⟩
    iapply Hk
    isplitl [HO]; · iexact HO
    isplitl [Hi] <;> iassumption

end

end Cert.KernelIdeal.Gen

end
-- ==== Proof.KernelIdeal.Run.lean ====
module

public import proofs.«01_k».proof.Proof.KernelIdeal.Body

/-! The two phases run in the order the kernel takes their steps. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The rectangles -/

/-- The block of rows block product number `i` is. -/
def bd (c : Dev nD) (i : Fin 4) : Fin 4 :=
  ⟨(c.val / 8 + (match i with | 0 => 3 | 1 => 1 | 2 => 0 | 3 => 2)) % 4, Nat.mod_lt _ (by decide)⟩

theorem od_eq : ∀ (c : Dev nD) (i : Fin 4), od c i = (![512 * (bd c i).val, 0], ![512 * (bd c i).val, 0]) := by decide +kernel
theorem bd_surj : ∀ (c : Dev nD) (b : Fin 4), ∃ i, bd c i = b := by decide +kernel

/-- The rows of the partial product there are after `n` block products. -/
def bS (c : Dev nD) (n : ℕ) : Finset S2048x2048.Idx :=
  (Finset.univ.filter fun i : Fin 4 => i.val < n).biUnion fun i => (rp (od c i).2 (odp_inb c i)).set
/-- The rows of the first phase's sum of direction `d` there are after `n` of the steps writing them. -/
def aS (d : Bool) (n : ℕ) : Finset S512x1024.Idx :=
  (Finset.univ.filter fun u : Fin 2 => 2 * d.toNat + u.val < n).biUnion fun u => (ra256 u).set
/-- The part of the result there is after `n` of the steps writing it. -/
def oS (n : ℕ) : Finset S64x2048.Idx :=
  (Finset.univ.filter fun p : Bool × Fin 2 => 2 * p.1.toNat + p.2.val < n).biUnion fun p => (ro p.1 p.2).set

theorem bS_zero (c : Dev nD) : bS c 0 = ∅ := rfl
theorem aS_zero (d : Bool) : aS d 0 = ∅ := by cases d <;> rfl
theorem oS_zero : oS 0 = ∅ := rfl

theorem bS_succ (c : Dev nD) (i : Fin 4) : bS c i.val ∪ (rp (od c i).2 (odp_inb c i)).set = bS c (i.val + 1) := by
  have h : (Finset.univ.filter fun i' : Fin 4 => i'.val < i.val + 1) = insert i (Finset.univ.filter fun i' : Fin 4 => i'.val < i.val) := by
    revert i; decide
  unfold bS
  rw [h, Finset.biUnion_insert, Finset.union_comm]
theorem aS_succ (d : Bool) (u : Fin 2) : aS d (2 * d.toNat + u.val) ∪ (ra256 u).set = aS d (2 * d.toNat + u.val + 1) := by
  have h : (Finset.univ.filter fun u' : Fin 2 => 2 * d.toNat + u'.val < 2 * d.toNat + u.val + 1)
      = insert u (Finset.univ.filter fun u' : Fin 2 => 2 * d.toNat + u'.val < 2 * d.toNat + u.val) := by revert d u; decide
  unfold aS
  rw [h, Finset.biUnion_insert, Finset.union_comm]
theorem aS_other (d : Bool) (u : Fin 2) : aS (!d) (2 * d.toNat + u.val) = aS (!d) (2 * d.toNat + u.val + 1) := by
  have h : (Finset.univ.filter fun u' : Fin 2 => 2 * (!d).toNat + u'.val < 2 * d.toNat + u.val)
      = (Finset.univ.filter fun u' : Fin 2 => 2 * (!d).toNat + u'.val < 2 * d.toNat + u.val + 1) := by revert d u; decide
  unfold aS
  rw [h]
theorem oS_succ (d : Bool) (u : Fin 2) : oS (2 * d.toNat + u.val) ∪ (ro d u).set = oS (2 * d.toNat + u.val + 1) := by
  have h : (Finset.univ.filter fun p : Bool × Fin 2 => 2 * p.1.toNat + p.2.val < 2 * d.toNat + u.val + 1)
      = insert (d, u) (Finset.univ.filter fun p : Bool × Fin 2 => 2 * p.1.toNat + p.2.val < 2 * d.toNat + u.val) := by
    revert d u; decide
  unfold oS
  rw [h, Finset.biUnion_insert, Finset.union_comm]

theorem bS_all (c : Dev nD) : bS c 4 = Finset.univ := by
  refine Finset.eq_univ_of_forall fun y => ?_
  have hy0 : (y 0).val < 2048 := (y 0).isLt
  have hy1 : (y 1).val < 2048 := (y 1).isLt
  obtain ⟨i, hi⟩ := bd_surj c ⟨(y 0).val / 512, by omega⟩
  refine Finset.mem_biUnion.mpr ⟨i, Finset.mem_filter.mpr ⟨Finset.mem_univ _, i.isLt⟩, ?_⟩
  rw [Rect.mem_set_unit, od_eq, hi]
  refine Fin.forall_fin_two.mpr ⟨?_, ?_⟩
  · show 512 * ((y 0).val / 512) ≤ (y 0).val ∧ (y 0).val < 512 * ((y 0).val / 512) + 512
    omega
  · show 0 ≤ (y 1).val ∧ (y 1).val < 0 + 2048
    omega
theorem aS_all (d : Bool) : aS d 4 = Finset.univ := by
  refine Finset.eq_univ_of_forall fun y => ?_
  have hy0 : (y 0).val < 512 := (y 0).isLt
  have hy1 : (y 1).val < 1024 := (y 1).isLt
  refine Finset.mem_biUnion.mpr ⟨⟨(y 0).val / 256, by omega⟩, Finset.mem_filter.mpr ⟨Finset.mem_univ _, ?_⟩, ?_⟩
  · cases d
    · show 2 * 0 + (y 0).val / 256 < 4; omega
    · show 2 * 1 + (y 0).val / 256 < 4; omega
  rw [Rect.mem_set_unit]
  refine Fin.forall_fin_two.mpr ⟨?_, ?_⟩
  · show 256 * ((y 0).val / 256) ≤ (y 0).val ∧ (y 0).val < 256 * ((y 0).val / 256) + 256
    omega
  · show 0 ≤ (y 1).val ∧ (y 1).val < 0 + 1024
    omega
theorem oS_all : oS 4 = Finset.univ := by
  refine Finset.eq_univ_of_forall fun y => ?_
  have hy0 : (y 0).val < 64 := (y 0).isLt
  have hy1 : (y 1).val < 2048 := (y 1).isLt
  refine Finset.mem_biUnion.mpr ⟨(decide (1024 ≤ (y 1).val), ⟨(y 0).val / 32, by omega⟩), Finset.mem_filter.mpr ⟨Finset.mem_univ _, ?_⟩, ?_⟩
  · show 2 * (decide (1024 ≤ (y 1).val)).toNat + (y 0).val / 32 < 4
    have := Bool.toNat_le (decide (1024 ≤ (y 1).val))
    omega
  rw [Rect.mem_set_unit]
  refine Fin.forall_fin_two.mpr ⟨?_, ?_⟩
  · show 32 * ((y 0).val / 32) ≤ (y 0).val ∧ (y 0).val < 32 * ((y 0).val / 32) + 32
    omega
  · show 1024 * (decide (1024 ≤ (y 1).val)).toNat ≤ (y 1).val ∧ (y 1).val < 1024 * (decide (1024 ≤ (y 1).val)).toNat + 1024
    by_cases h : 1024 ≤ (y 1).val
    · rw [decide_eq_true h]; show 1024 * 1 ≤ _ ∧ _ < 1024 * 1 + 1024; omega
    · rw [decide_eq_false h]; show 1024 * 0 ≤ _ ∧ _ < 1024 * 0 + 1024; omega

/-- The block product the first messages of a direction are part of. -/
def iq (d : Bool) : Fin 4 := match d with | false => 0 | true => 1

theorem q0_in : ∀ (c : Dev nD) (d : Bool) (u : Fin 2) (a : Fin 2), (od c (iq d)).2 a ≤ oq0 c d u a
    ∧ oq0 c d u a + S256x1024.size a ≤ (od c (iq d)).2 a + S512x2048.size a := by decide +kernel
theorem q0_sub (c : Dev nD) (d : Bool) (u : Fin 2) : (q0 c d u).set ⊆ bS c ((iq d).val + 1) := by
  intro y hy
  rw [← bS_succ]
  refine Finset.mem_union_right _ ?_
  rw [Rect.mem_set_unit] at hy ⊢
  intro a
  have h1 := hy a
  have h2 := q0_in c d u a
  omega

/-! ## The phases -/

section
variable (X : Dev nD → Vec F S2048x64 .f32) (W : Dev nD → Vec F S64x2048 .f32) (K : Dev nD × Key → ℕ)

/-- What the block products compute. -/
theorem dot_val (c : Dev nD) (i : Fin 4) :
    k0_pay1 (part (rx (od c i).1 (odx_inb c i)) (X c)) (part rw_ (W c)) = part (rp (od c i).2 (odp_inb c i)) (pB X W c) := by
  have key : ∀ (o o' : Fin 2 → ℕ) h h' (b : Fin 4), o = ![512 * b.val, 0] → o' = ![512 * b.val, 0] →
      k0_pay1 (part (rx o h) (X c)) (part rw_ (W c)) = part (rp o' h') (pB X W c) := by
    rintro _ _ h h' b rfl rfl
    funext j
    exact (pB_emb X W c b j).symm
  exact key _ _ _ _ (bd c i) (by rw [od_eq]) (by rw [od_eq])

/-- The two blocks a device starts with. -/
def blocks (c : Dev nD) : sProp 𝕄 := iprop(holds xM c Finset.univ (X c) ∗ holds wM c Finset.univ (W c))

theorem wp_dot (c : Dev nD) (i : Fin 4) (p : P F) (Kt : PUnit → sProp 𝕄) :
    iprop(blocks X W c ∗ holds pM c (bS c i.val) (pB X W c) ∗ ((blocks X W c ∗ holds pM c (bS c (i.val + 1)) (pB X W c)) -∗ WP c p Kt))
      ⊢ WP c (dotS c i p) Kt := by
  unfold dotS blocks
  iintro ⟨⟨Hx, Hw⟩, Hp, Hk⟩
  iapply (wp_load_known xM c (rx (od c i).1 (odx_inb c i)) Finset.univ (X c) (Finset.subset_univ _))
  isplitl [Hx]; · iexact Hx
  iintro Hx
  iapply (wp_load_known wM c rw_ Finset.univ (W c) (Finset.subset_univ _))
  isplitl [Hw]; · iexact Hw
  iintro Hw
  iapply (wp_load_any pM c (rp (od c i).2 (odp_inb c i)) (bS c i.val) (pB X W c))
  isplitl [Hp]; · iexact Hp
  iintro Hp
  iapply (wp_store_known pM c (rp (od c i).2 (odp_inb c i)) (bS c i.val) (pB X W c) _ (dot_val X W c i))
  isplitl [Hp]; · iexact Hp
  rw [bS_succ]
  iintro Hp
  iapply Hk
  isplitr [Hp]
  · isplitl [Hx] <;> iassumption
  · iexact Hp

theorem wp_put1 (c : Dev nD) (d : Bool) (u : Fin 2) (k : ℕ) (hk : 2 * d.toNat + u.val = k) (p : P F) (Kt : PUnit → sProp 𝕄) :
    iprop(ctx X W K ∗ St c k 0 ∗ holds pM c (bS c ((iq d).val + 1)) (pB X W c)
        ∗ ((St c (k + 1) 0 ∗ holds pM c (bS c ((iq d).val + 1)) (pB X W c)) -∗ WP c p Kt)) ⊢ WP c (put1 c d u p) Kt :=
  wp_putS X W K c (.inl (0, d, u)) (by show 4 * 0 + 2 * d.toNat + u.val = k; omega) pM (q0 c d u) h_S256x1024 k0_pay2 _ _
    (q0_sub c d u) (msg_put1 X W c d u).symm p Kt

/-- The block products and the first messages. -/
theorem wp_first (c : Dev nD) (p : P F) (Kt : PUnit → sProp 𝕄) :
    iprop(ctx X W K ∗ St c 0 0 ∗ blocks X W c ∗ holds pM c ∅ (pB X W c)
        ∗ ((St c 4 0 ∗ blocks X W c ∗ holds pM c Finset.univ (pB X W c)) -∗ WP c p Kt))
      ⊢ WP c (dotS c 0 <| put1 c false 0 <| put1 c false 1 <| dotS c 1 <| put1 c true 0 <| put1 c true 1 <| dotS c 2 <| dotS c 3 p) Kt := by
  rw [← bS_all c, ← bS_zero c]
  iintro ⟨#Hc, HS, Hb, Hp, Hk⟩
  iapply (wp_dot X W c 0)
  isplitl [Hb]; · iexact Hb
  isplitl [Hp]; · iexact Hp
  iintro ⟨Hb, Hp⟩
  iapply (wp_put1 X W K c false 0 0 rfl); isplitr; · iexact Hc
  isplitl [HS]; · iexact HS
  isplitl [Hp]; · iexact Hp
  iintro ⟨HS, Hp⟩
  iapply (wp_put1 X W K c false 1 1 rfl); isplitr; · iexact Hc
  isplitl [HS]; · iexact HS
  isplitl [Hp]; · iexact Hp
  iintro ⟨HS, Hp⟩
  iapply (wp_dot X W c 1)
  isplitl [Hb]; · iexact Hb
  isplitl [Hp]; · iexact Hp
  iintro ⟨Hb, Hp⟩
  iapply (wp_put1 X W K c true 0 2 rfl); isplitr; · iexact Hc
  isplitl [HS]; · iexact HS
  isplitl [Hp]; · iexact Hp
  iintro ⟨HS, Hp⟩
  iapply (wp_put1 X W K c true 1 3 rfl); isplitr; · iexact Hc
  isplitl [HS]; · iexact HS
  isplitl [Hp]; · iexact Hp
  iintro ⟨HS, Hp⟩
  iapply (wp_dot X W c 2)
  isplitl [Hb]; · iexact Hb
  isplitl [Hp]; · iexact Hp
  iintro ⟨Hb, Hp⟩
  iapply (wp_dot X W c 3)
  isplitl [Hb]; · iexact Hb
  isplitl [Hp]; · iexact Hp
  iintro ⟨Hb, Hp⟩
  iapply Hk
  isplitl [HS]; · iexact HS
  isplitl [Hb]; · iexact Hb
  iexact Hp

/-- The first phase's sums, each known on a set of its rows. -/
def sums (c : Dev nD) (S : Bool → Finset S512x1024.Idx) : sProp 𝕄 :=
  iprop(holds (aM false) c (S false) (aB X W false c) ∗ holds (aM true) c (S true) (aB X W true c))

theorem sums_at (c : Dev nD) (S : Bool → Finset S512x1024.Idx) (d : Bool) :
    sums X W c S = iprop(holds (aM d) c (S d) (aB X W d c) ∗ holds (aM !d) c (S !d) (aB X W (!d) c)) := by
  cases d
  · rfl
  · show iprop(holds (aM false) c (S false) (aB X W false c) ∗ holds (aM true) c (S true) (aB X W true c))
      = iprop(holds (aM true) c (S true) (aB X W true c) ∗ holds (aM false) c (S false) (aB X W false c))
    exact Idealize.SL.BI.equiv_iff.mp ⟨Idealize.SL.BI.sep_comm, Idealize.SL.BI.sep_comm⟩

/-- A hop of the first phase. -/
theorem wp_hop1 (c : Dev nD) (s : Fin 2) {k j : ℕ} (k' j' : ℕ) (hj : 4 * s.val = j) (hk : j + 4 = k) (hj' : j + 4 = j') (hk' : k + 4 = k')
    (p : P F) (Kt : PUnit → sProp 𝕄) :
    iprop(ctx X W K ∗ (St c k j ∗ holds pM c Finset.univ (pB X W c)) ∗ ((St c k' j' ∗ holds pM c Finset.univ (pB X W c)) -∗ WP c p Kt))
      ⊢ WP c (quad (hop1 c s) p) Kt := by
  subst hj hk hj' hk'
  refine wp_quad X W K c (hop1 c s) (fun n => iprop(St c (4 * s.val + 4 + n) (4 * s.val + n) ∗ holds pM c Finset.univ (pB X W c))) Kt
    (fun d u p => ?_) p
  generalize hm : 2 * d.toNat + u.val = m
  have hd := Bool.toNat_le d
  have hu := u.isLt
  iintro ⟨#Hc, ⟨HS, Hp⟩, Hk⟩
  iapply (wp_hopS X W K c (.inl (s.castSucc, d, u)) (.inl (s.succ, d, u)) (k := 4 * s.val + 4 + m) (j := 4 * s.val + m)
    (by show 4 * s.val + 2 * d.toNat + u.val = _; omega) (by show 4 * (s.val + 1) + 2 * d.toNat + u.val = _; omega) (by omega)
    pM (q1 c s d u) h_S256x1024 k0_pay10 Finset.univ (pB X W c) (Finset.subset_univ _) (msg_hop1 X W c s d u).symm p Kt)
  isplitr; · iexact Hc
  isplitl [HS]; · iexact HS
  isplitl [Hp]; · iexact Hp
  iexact Hk

/-- The end of the first phase. -/
theorem wp_acc1 (c : Dev nD) (p : P F) (Kt : PUnit → sProp 𝕄) :
    iprop(ctx X W K ∗ (St c 12 8 ∗ holds pM c Finset.univ (pB X W c) ∗ sums X W c fun _ => ∅)
        ∗ ((St c 12 12 ∗ holds pM c Finset.univ (pB X W c) ∗ sums X W c fun _ => Finset.univ) -∗ WP c p Kt))
      ⊢ WP c (quad (acc1 c) p) Kt := by
  have h0 : (fun d : Bool => aS d 0) = fun _ => ∅ := funext aS_zero
  have h4 : (fun d : Bool => aS d 4) = fun _ => Finset.univ := funext aS_all
  rw [← h0, ← h4]
  refine wp_quad X W K c (acc1 c) (fun n => iprop(St c 12 (8 + n) ∗ holds pM c Finset.univ (pB X W c) ∗ sums X W c fun d => aS d n)) Kt
    (fun d u p => ?_) p
  rw [sums_at X W c _ d, sums_at X W c _ d, ← aS_succ, ← aS_other]
  have hm : 2 * d.toNat + u.val < 4 := by have := Bool.toNat_le d; omega
  iintro ⟨#Hc, ⟨HS, Hp, Ha, Hb⟩, Hk⟩
  iapply (wp_outS X W K c (.inl (2, d, u)) (k := 12) (j := 8 + (2 * d.toNat + u.val))
    (by show 4 * 2 + 2 * d.toNat + u.val = _; omega) (by omega)
    pM (qa c d u) h_S256x1024 (aM d) (ra256 u) h_S256x1024 _ k0_pay19 Finset.univ (pB X W c) (aS d (2 * d.toNat + u.val)) (aB X W d c)
    (Finset.subset_univ _) (funext fun j => (aB_emb X W d c u j).symm) p Kt)
  isplitr; · iexact Hc
  isplitl [HS]; · iexact HS
  isplitl [Hp]; · iexact Hp
  isplitl [Ha]; · iexact Ha
  iintro ⟨HS, Hp, Ha⟩
  iapply Hk
  isplitl [HS]; · iexact HS
  isplitl [Hp]; · iexact Hp
  isplitl [Ha] <;> iassumption

/-- The second phase's first messages. -/
theorem wp_put2 (c : Dev nD) (p : P F) (Kt : PUnit → sProp 𝕄) :
    iprop(ctx X W K ∗ (St c 12 12 ∗ sums X W c fun _ => Finset.univ) ∗ ((St c 16 12 ∗ sums X W c fun _ => Finset.univ) -∗ WP c p Kt))
      ⊢ WP c (quad (put2 c) p) Kt := by
  refine wp_quad X W K c (put2 c) (fun n => iprop(St c (12 + n) 12 ∗ sums X W c fun _ => Finset.univ)) Kt (fun d u p => ?_) p
  rw [sums_at X W c _ d]
  iintro ⟨#Hc, ⟨HS, Ha, Hb⟩, Hk⟩
  iapply (wp_putS X W K c (.inr (0, d, u)) (k := 12 + (2 * d.toNat + u.val)) (j := 12)
    (by show 12 + (4 * 0 + 2 * d.toNat + u.val) = _; omega) (aM d) (p0 c d u) h_S32x1024 k0_pay23 Finset.univ (aB X W d c)
    (Finset.subset_univ _) (msg_put2 X W c d u).symm p Kt)
  isplitr; · iexact Hc
  isplitl [HS]; · iexact HS
  isplitl [Ha]; · iexact Ha
  iintro ⟨HS, Ha⟩
  iapply Hk
  isplitl [HS]; · iexact HS
  isplitl [Ha] <;> iassumption

/-- A hop of the second phase. -/
theorem wp_hop2 (c : Dev nD) (s : Fin 6) {k j : ℕ} (k' j' : ℕ) (hj : 12 + 4 * s.val = j) (hk : j + 4 = k) (hj' : j + 4 = j') (hk' : k + 4 = k')
    (p : P F) (Kt : PUnit → sProp 𝕄) :
    iprop(ctx X W K ∗ (St c k j ∗ sums X W c fun _ => Finset.univ) ∗ ((St c k' j' ∗ sums X W c fun _ => Finset.univ) -∗ WP c p Kt))
      ⊢ WP c (quad (hop2 c s) p) Kt := by
  subst hj hk hj' hk'
  refine wp_quad X W K c (hop2 c s) (fun n => iprop(St c (12 + 4 * s.val + 4 + n) (12 + 4 * s.val + n) ∗ sums X W c fun _ => Finset.univ)) Kt
    (fun d u p => ?_) p
  rw [sums_at X W c _ d]
  generalize hm : 2 * d.toNat + u.val = m
  have hd := Bool.toNat_le d
  have hu := u.isLt
  iintro ⟨#Hc, ⟨HS, Ha, Hb⟩, Hk⟩
  iapply (wp_hopS X W K c (.inr (s.castSucc, d, u)) (.inr (s.succ, d, u)) (k := 12 + 4 * s.val + 4 + m) (j := 12 + 4 * s.val + m)
    (by show 12 + (4 * s.val + 2 * d.toNat + u.val) = _; omega) (by show 12 + (4 * (s.val + 1) + 2 * d.toNat + u.val) = _; omega) (by omega)
    (aM d) (p1 c s d u) h_S32x1024 k0_pay27 Finset.univ (aB X W d c) (Finset.subset_univ _) (msg_hop2 X W c s d u).symm p Kt)
  isplitr; · iexact Hc
  isplitl [HS]; · iexact HS
  isplitl [Ha]; · iexact Ha
  iintro ⟨HS, Ha⟩
  iapply Hk
  isplitl [HS]; · iexact HS
  isplitl [Ha] <;> iassumption

/-- The end of the second phase. -/
theorem wp_out2 (c : Dev nD) (p : P F) (Kt : PUnit → sProp 𝕄) :
    iprop(ctx X W K ∗ (St c 40 36 ∗ (sums X W c fun _ => Finset.univ) ∗ holds oM c ∅ (oB X W c))
        ∗ ((St c 40 40 ∗ (sums X W c fun _ => Finset.univ) ∗ holds oM c Finset.univ (oB X W c)) -∗ WP c p Kt))
      ⊢ WP c (quad (out2 c) p) Kt := by
  rw [← oS_zero, ← oS_all]
  refine wp_quad X W K c (out2 c) (fun n => iprop(St c 40 (36 + n) ∗ (sums X W c fun _ => Finset.univ) ∗ holds oM c (oS n) (oB X W c))) Kt
    (fun d u p => ?_) p
  rw [sums_at X W c _ d, ← oS_succ]
  have hm : 2 * d.toNat + u.val < 4 := by have := Bool.toNat_le d; omega
  iintro ⟨#Hc, ⟨HS, ⟨Ha, Hb⟩, Ho⟩, Hk⟩
  iapply (wp_outS X W K c (.inr (6, d, u)) (k := 40) (j := 36 + (2 * d.toNat + u.val))
    (by show 12 + (4 * 6 + 2 * d.toNat + u.val) = _; omega) (by omega)
    (aM d) (po c u) h_S32x1024 oM (ro d u) h_S32x1024 _ k0_pay57 Finset.univ (aB X W d c) (oS (2 * d.toNat + u.val)) (oB X W c)
    (Finset.subset_univ _) (funext fun j => (oB_emb X W c d u j).symm) p Kt)
  isplitr; · iexact Hc
  isplitl [HS]; · iexact HS
  isplitl [Ha]; · iexact Ha
  isplitl [Ho]; · iexact Ho
  iintro ⟨HS, Ha, Ho⟩
  iapply Hk
  isplitl [HS]; · iexact HS
  isplitr [Ho]
  · isplitl [Ha] <;> iassumption
  · iexact Ho

/-- The messages in the order their sends are waited for. -/
def drainL : List Msg :=
  (([false, true] : List Bool).flatMap fun d => (List.finRange 3).flatMap fun s => (List.finRange 2).map fun u => .inl (s, d, u))
    ++ (([false, true] : List Bool).flatMap fun d => (List.finRange 7).flatMap fun s => (List.finRange 2).map fun u => .inr (s, d, u))
theorem drainL_nodup : drainL.Nodup := by decide +kernel
theorem drainL_all : drainL.toFinset = Finset.univ := by decide +kernel
theorem drainL_eq (p : P F) : drainL.foldr (fun i k => (chd i).drain k) p = (drain1 false <| drain1 true <| drain2 false <| drain2 true p) := rfl

/-- What a device holds once the two phases are over. -/
def done (c : Dev nD) : sProp 𝕄 :=
  iprop((∃ O, owes (c : Thread nD τ) 0 O) ∗ bigSep Finset.univ (drained (F := F) c) ∗ bigSep Finset.univ (gotten (F := F) c)
    ∗ blocks X W c ∗ holds pM c Finset.univ (pB X W c) ∗ (sums X W c fun _ => Finset.univ) ∗ holds oM c Finset.univ (oB X W c))

theorem wp_done (c : Dev nD) (Kt : PUnit → sProp 𝕄) : Kt ⟨⟩ ⊢ WP c (.ret ⟨⟩) Kt := by
  unfold WP
  rw [wp_ret]
  iintro H
  imodintro
  iexact H

/-- The two phases. -/
theorem wp_rest (c : Dev nD) (Kt : PUnit → sProp 𝕄) :
    iprop(ctx X W K ∗ St c 0 0 ∗ blocks X W c ∗ holds pM c ∅ (pB X W c) ∗ (sums X W c fun _ => ∅) ∗ holds oM c ∅ (oB X W c)
        ∗ (done X W c -∗ Kt ⟨⟩)) ⊢ WP c (rest c) Kt := by
  unfold rest
  rw [← drainL_eq]
  iintro ⟨#Hc, HS, Hb, Hp, Ha, Ho, Hk⟩
  iapply (wp_first X W K c); isplitr; · iexact Hc
  isplitl [HS]; · iexact HS
  isplitl [Hb]; · iexact Hb
  isplitl [Hp]; · iexact Hp
  iintro ⟨HS, Hb, Hp⟩
  iapply (wp_hop1 X W K c 0 (k := 4) (j := 0) 8 4 rfl rfl rfl rfl); isplitr; · iexact Hc
  isplitl [HS Hp]; · isplitl [HS] <;> iassumption
  iintro ⟨HS, Hp⟩
  iapply (wp_hop1 X W K c 1 (k := 8) (j := 4) 12 8 rfl rfl rfl rfl); isplitr; · iexact Hc
  isplitl [HS Hp]; · isplitl [HS] <;> iassumption
  iintro ⟨HS, Hp⟩
  iapply (wp_acc1 X W K c); isplitr; · iexact Hc
  isplitl [HS Hp Ha]
  · isplitl [HS]; · iexact HS
    isplitl [Hp] <;> iassumption
  iintro ⟨HS, Hp, Ha⟩
  iapply (wp_put2 X W K c); isplitr; · iexact Hc
  isplitl [HS Ha]; · isplitl [HS] <;> iassumption
  iintro HS
  iapply (wp_hop2 X W K c 0 (k := 16) (j := 12) 20 16 rfl rfl rfl rfl); isplitr; · iexact Hc
  isplitl [HS]; · iexact HS
  iintro HS
  iapply (wp_hop2 X W K c 1 (k := 20) (j := 16) 24 20 rfl rfl rfl rfl); isplitr; · iexact Hc
  isplitl [HS]; · iexact HS
  iintro HS
  iapply (wp_hop2 X W K c 2 (k := 24) (j := 20) 28 24 rfl rfl rfl rfl); isplitr; · iexact Hc
  isplitl [HS]; · iexact HS
  iintro HS
  iapply (wp_hop2 X W K c 3 (k := 28) (j := 24) 32 28 rfl rfl rfl rfl); isplitr; · iexact Hc
  isplitl [HS]; · iexact HS
  iintro HS
  iapply (wp_hop2 X W K c 4 (k := 32) (j := 28) 36 32 rfl rfl rfl rfl); isplitr; · iexact Hc
  isplitl [HS]; · iexact HS
  iintro HS
  iapply (wp_hop2 X W K c 5 (k := 36) (j := 32) 40 36 rfl rfl rfl rfl); isplitr; · iexact Hc
  isplitl [HS]; · iexact HS
  iintro ⟨HS, Ha⟩
  iapply (wp_out2 X W K c); isplitr; · iexact Hc
  isplitl [HS Ha Ho]
  · isplitl [HS]; · iexact HS
    isplitl [Ha] <;> iassumption
  unfold St
  rw [owed_end, upto_end, from_end]
  iintro ⟨⟨HO, -, Hs, -, Hg⟩, Ha, Ho⟩
  iapply (wp_drains X W K c (.ret ⟨⟩) Kt drainL drainL_nodup); isplitr; · iexact Hc
  isplitl [HO]; · iexact HO
  rw [drainL_all]
  isplitl [Hs]; · iexact Hs
  iintro ⟨HO, Hd⟩
  iapply (wp_done c Kt)
  iapply Hk
  unfold done
  isplitl [HO]; · iexact HO
  isplitl [Hd]; · iexact Hd
  isplitl [Hg]; · iexact Hg
  isplitl [Hb]; · iexact Hb
  isplitl [Hp]; · iexact Hp
  isplitl [Ha] <;> iassumption

end

end Cert.KernelIdeal.Gen

end
-- ==== Proof.KernelIdeal.Slots.lean ====
module

public import proofs.«01_k».proof.Proof.KernelIdeal.Run

/-! A whole message buffer is its slots, taken together; and the messages are those of the four lanes. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c` holds the whole of a buffer, with anything in it. -/
def buf {sp : Space} {s : Shape} {e : EltTy} (M : Memref sig .tc sp s e) (c : Dev nD) : sProp 𝕄 :=
  iprop(∃ f : Buf (Elt F) (M.view.loc (c : Thread nD τ)), M.view.loc (c : Thread nD τ) ↦[M.view.set]{fullShare} f)

theorem holds_of_buf {s : Shape} (M : Memref sig .tc .vmem s .f32) (c : Dev nD) (G : s.Idx → F .f32) : buf M c ⊢ holds M c ∅ G := by
  unfold buf holds
  iintro ⟨%f, H⟩
  iexists f
  isplitr
  · ipureintro; exact fun i hi => absurd hi (Finset.notMem_empty i)
  · iexact H
theorem buf_of_holds {s : Shape} (M : Memref sig .tc .vmem s .f32) (c : Dev nD) (S : Finset s.Idx) (G : s.Idx → F .f32) : holds M c S G ⊢ buf M c := by
  unfold buf holds
  iintro ⟨%f, -, H⟩
  iexists f
  iexact H

/-- A buffer cut into rectangles of which no two meet and which together are all of it. -/
theorem buf_slots {B : Type} [Fintype B] [DecidableEq B] {s : Shape} {e : EltTy} (M : Memref sig .tc .vmem s e) (c : Dev nD)
    (r : B → Rect s) (hd : ∀ b b', b ≠ b' → Disjoint (r b).set (r b').set) (hc : ∀ i, ∃ b, i ∈ (r b).set)
    [Nonempty (Buf (Elt F) (M.view.loc (c : Thread nD τ)))] :
    (buf M c : sProp 𝕄)
      = bigSep Finset.univ fun b => iprop(∃ f, M.view.loc (c : Thread nD τ) ↦[(M.access (r b)).set]{fullShare} f) := by
  have hu : (Finset.univ : Finset B).biUnion (fun b => (M.access (r b)).set) = M.view.set := by
    ext i
    rw [Finset.mem_biUnion]
    constructor
    · rintro ⟨b, -, hb⟩
      exact View.set_slice_subset _ _ hb
    · intro hi
      obtain ⟨x, -, rfl⟩ := Finset.mem_map.mp hi
      obtain ⟨b, hb⟩ := hc x
      refine ⟨b, Finset.mem_univ _, ?_⟩
      rw [View.set_slice]
      exact Finset.mem_map_of_mem _ hb
  have hd' : ∀ b ∈ (Finset.univ : Finset B), ∀ b' ∈ (Finset.univ : Finset B), b ≠ b' →
      Disjoint (M.access (r b)).set (M.access (r b')).set := fun b _ b' _ h => View.disjoint_slice (hd b b' h)
  have h1 : (buf M c : sProp 𝕄)
      ⊢ bigSep Finset.univ fun b => iprop(∃ f, M.view.loc (c : Thread nD τ) ↦[(M.access (r b)).set]{fullShare} f) := by
    have hone (b : B) (f : Buf (Elt F) (M.view.loc (c : Thread nD τ))) :
        (M.view.loc (c : Thread nD τ) ↦[(M.access (r b)).set]{fullShare} f)
          ⊢ (iprop(∃ f, M.view.loc (c : Thread nD τ) ↦[(M.access (r b)).set]{fullShare} f) : sProp 𝕄) := by
      iintro H; iexists f; iexact H
    have hall (f : Buf (Elt F) (M.view.loc (c : Thread nD τ))) :
        (bigSep Finset.univ fun b => (M.view.loc (c : Thread nD τ) ↦[(M.access (r b)).set]{fullShare} f))
          ⊢ (bigSep Finset.univ fun b => iprop(∃ f, M.view.loc (c : Thread nD τ) ↦[(M.access (r b)).set]{fullShare} f) : sProp 𝕄) :=
      bigSep_mono fun b _ => hone b f
    have hsplit (f : Buf (Elt F) (M.view.loc (c : Thread nD τ))) :
        (M.view.loc (c : Thread nD τ) ↦[M.view.set]{fullShare} f)
          ⊢ (bigSep Finset.univ fun b => iprop(∃ f, M.view.loc (c : Thread nD τ) ↦[(M.access (r b)).set]{fullShare} f) : sProp 𝕄) := by
      rw [← hu, pointsTo_biUnion _ _ hd']
      exact hall f
    unfold buf
    iintro ⟨%f, H⟩
    iapply (hsplit f)
    iexact H
  have h2 : (bigSep Finset.univ fun b => iprop(∃ f, M.view.loc (c : Thread nD τ) ↦[(M.access (r b)).set]{fullShare} f))
      ⊢ (buf M c : sProp 𝕄) := by
    unfold buf
    iintro H
    ihave H' := (BI.bigSep_exists_pi Finset.univ fun (b : B) (f : Buf (Elt F) (M.view.loc (c : Thread nD τ))) =>
      (iprop(M.view.loc (c : Thread nD τ) ↦[(M.access (r b)).set]{fullShare} f) : sProp 𝕄)) $$ H
    icases H' with ⟨%fs, H⟩
    ihave H' := (pointsTo_biUnion_join Finset.univ (fun b => (M.access (r b)).set) fs (Classical.choice inferInstance) hd') $$ H
    icases H' with ⟨%g, -, H⟩
    iexists g
    rw [← hu]
    iexact H
  exact Idealize.SL.BI.equiv_iff.mp ⟨h1, h2⟩

/-! ## The two kinds of message buffer -/

theorem r1_disj (b b' : Fin 3 × Fin 2) (h : b ≠ b') : Disjoint (r1 b.1 b.2).set (r1 b'.1 b'.2).set := by
  have : ∃ a : Fin 3, ((r1 b.1 b.2).size a = 0 ∨ (r1 b.1 b.2).off a + (r1 b.1 b.2).stride a * ((r1 b.1 b.2).size a - 1) < (r1 b'.1 b'.2).off a)
      ∨ ((r1 b'.1 b'.2).size a = 0 ∨ (r1 b'.1 b'.2).off a + (r1 b'.1 b'.2).stride a * ((r1 b'.1 b'.2).size a - 1) < (r1 b.1 b.2).off a) := by
    revert b b'; decide +kernel
  obtain ⟨a, ha⟩ := this
  exact Rect.disjoint_of_separated _ _ a ha
theorem r2_disj (b b' : Fin 7 × Fin 2) (h : b ≠ b') : Disjoint (r2 b.1 b.2).set (r2 b'.1 b'.2).set := by
  have : ∃ a : Fin 3, ((r2 b.1 b.2).size a = 0 ∨ (r2 b.1 b.2).off a + (r2 b.1 b.2).stride a * ((r2 b.1 b.2).size a - 1) < (r2 b'.1 b'.2).off a)
      ∨ ((r2 b'.1 b'.2).size a = 0 ∨ (r2 b'.1 b'.2).off a + (r2 b'.1 b'.2).stride a * ((r2 b'.1 b'.2).size a - 1) < (r2 b.1 b.2).off a) := by
    revert b b'; decide +kernel
  obtain ⟨a, ha⟩ := this
  exact Rect.disjoint_of_separated _ _ a ha

theorem forall_fin3 {p : Fin 3 → Prop} (h0 : p 0) (h1 : p 1) (h2 : p 2) : ∀ a, p a := fun a => by
  fin_cases a
  exacts [h0, h1, h2]

theorem r1_cov (y : S3x512x1024.Idx) : ∃ b : Fin 3 × Fin 2, y ∈ (r1 b.1 b.2).set := by
  have hy0 : (y 0).val < 3 := (y 0).isLt
  have hy1 : (y 1).val < 512 := (y 1).isLt
  have hy2 : (y 2).val < 1024 := (y 2).isLt
  refine ⟨(⟨(y 0).val, hy0⟩, ⟨(y 1).val / 256, by omega⟩), ?_⟩
  rw [Rect.mem_set_unit]
  refine forall_fin3 ?_ ?_ ?_
  · show (y 0).val ≤ (y 0).val ∧ (y 0).val < (y 0).val + 1; omega
  · show 256 * ((y 1).val / 256) ≤ (y 1).val ∧ (y 1).val < 256 * ((y 1).val / 256) + 256; omega
  · show 0 ≤ (y 2).val ∧ (y 2).val < 0 + 1024; omega
theorem r2_cov (y : S7x64x1024.Idx) : ∃ b : Fin 7 × Fin 2, y ∈ (r2 b.1 b.2).set := by
  have hy0 : (y 0).val < 7 := (y 0).isLt
  have hy1 : (y 1).val < 64 := (y 1).isLt
  have hy2 : (y 2).val < 1024 := (y 2).isLt
  refine ⟨(⟨(y 0).val, hy0⟩, ⟨(y 1).val / 32, by omega⟩), ?_⟩
  rw [Rect.mem_set_unit]
  refine forall_fin3 ?_ ?_ ?_
  · show (y 0).val ≤ (y 0).val ∧ (y 0).val < (y 0).val + 1; omega
  · show 32 * ((y 1).val / 32) ≤ (y 1).val ∧ (y 1).val < 32 * ((y 1).val / 32) + 32; omega
  · show 0 ≤ (y 2).val ∧ (y 2).val < 0 + 1024; omega

/-! ## The messages of a lane -/

def emb1 (d : Bool) : Fin 3 × Fin 2 ↪ Msg := ⟨fun x => .inl (x.1, d, x.2), fun x y h => by
  have h' := Sum.inl.inj h
  exact Prod.ext (congrArg (fun z => z.1) h') (congrArg (fun z => z.2.2) h')⟩
def emb2 (d : Bool) : Fin 7 × Fin 2 ↪ Msg := ⟨fun x => .inr (x.1, d, x.2), fun x y h => by
  have h' := Sum.inr.inj h
  exact Prod.ext (congrArg (fun z => z.1) h') (congrArg (fun z => z.2.2) h')⟩

theorem ofLane1 : ∀ d : Bool, ofLane (false, d) = Finset.univ.map (emb1 d) := by decide +kernel
theorem ofLane2 : ∀ d : Bool, ofLane (true, d) = Finset.univ.map (emb2 d) := by decide +kernel

theorem image_lane : (Finset.univ : Finset Msg).image lane = Finset.univ := by decide +kernel

/-- All messages, lane by lane. -/
theorem by_lane (Φ : Msg → sProp 𝕄) : bigSep Finset.univ Φ = bigSep Finset.univ fun p => bigSep (ofLane p) Φ := by
  rw [bigSep_fiberwise Finset.univ lane Φ, image_lane]

/-- The four lanes one by one. -/
theorem bigSep_lanes (Φ : Duty → sProp 𝕄) :
    bigSep Finset.univ Φ = iprop(Φ (false, false) ∗ Φ (false, true) ∗ Φ (true, false) ∗ Φ (true, true)) :=
  bigSep_univ_eq_bigSepL [(false, false), (false, true), (true, false), (true, true)] (by decide) (by decide) Φ

instance bf16_nonempty (b : Ref sig .tc) (c : Dev nD) : Nonempty (Buf (Elt F) ((c : Thread nD τ).loc b)) := inferInstance

/-- The slots a lane's messages are received in are its receive buffer. -/
theorem rv1_slots (d : Bool) (c : Dev nD) : (buf (rv1 d) c : sProp 𝕄) = bigSep (ofLane (false, d)) (rvAny c) := by
  haveI : Nonempty (Buf (Elt F) ((rv1 d).view.loc (c : Thread nD τ))) := by cases d <;> infer_instance
  rw [ofLane1, bigSep_map, buf_slots (rv1 d) c (fun b : Fin 3 × Fin 2 => r1 b.1 b.2) r1_disj r1_cov]
  rfl
theorem st1_slots (d : Bool) (c : Dev nD) : (buf (st1 d) c : sProp 𝕄) = bigSep (ofLane (false, d)) (stAny c) := by
  haveI : Nonempty (Buf (Elt F) ((st1 d).view.loc (c : Thread nD τ))) := by cases d <;> infer_instance
  rw [ofLane1, bigSep_map, buf_slots (st1 d) c (fun b : Fin 3 × Fin 2 => r1 b.1 b.2) r1_disj r1_cov]
  rfl
theorem rv2_slots (d : Bool) (c : Dev nD) : (buf (rv2 d) c : sProp 𝕄) = bigSep (ofLane (true, d)) (rvAny c) := by
  haveI : Nonempty (Buf (Elt F) ((rv2 d).view.loc (c : Thread nD τ))) := by cases d <;> infer_instance
  rw [ofLane2, bigSep_map, buf_slots (rv2 d) c (fun b : Fin 7 × Fin 2 => r2 b.1 b.2) r2_disj r2_cov]
  rfl
theorem st2_slots (d : Bool) (c : Dev nD) : (buf (st2 d) c : sProp 𝕄) = bigSep (ofLane (true, d)) (stAny c) := by
  haveI : Nonempty (Buf (Elt F) ((st2 d).view.loc (c : Thread nD τ))) := by cases d <;> infer_instance
  rw [ofLane2, bigSep_map, buf_slots (st2 d) c (fun b : Fin 7 × Fin 2 => r2 b.1 b.2) r2_disj r2_cov]
  rfl

/-- All receiving slots are the four receive buffers; -/
theorem rv_all (c : Dev nD) :
    (bigSep Finset.univ (rvAny c) : sProp 𝕄) = iprop(buf (rv1 false) c ∗ buf (rv1 true) c ∗ buf (rv2 false) c ∗ buf (rv2 true) c) := by
  rw [by_lane, bigSep_lanes, rv1_slots, rv1_slots, rv2_slots, rv2_slots]
/-- and all sending slots the four send buffers. -/
theorem st_all (c : Dev nD) :
    (bigSep Finset.univ (stAny c) : sProp 𝕄) = iprop(buf (st1 false) c ∗ buf (st1 true) c ∗ buf (st2 false) c ∗ buf (st2 true) c) := by
  rw [by_lane, bigSep_lanes, st1_slots, st1_slots, st2_slots, st2_slots]

end Cert.KernelIdeal.Gen

end
-- ==== Proof.KernelIdeal.PlanEq.lean ====
module

public import proofs.«01_k».proof.Proof.KernelIdeal.Plan
public import proofs.«01_k».proof.Proof.Gen.KernelIdeal.Points

@[expose] public section

noncomputable section

namespace Cert.KernelIdeal.Gen

open Idealize.ShloMosaic Idealize.ShloMosaic.TcCoe Idealize.SL.Sem

variable {F : FTy → Type} [FloatOps F]

set_option maxHeartbeats 4000000 in
set_option maxRecDepth 100000 in
/-- The body the pipeline calls is the plan. -/
theorem body_eq_plan : cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) cc0_scratch11 cc0_scratch12 cc0_scratch13 cc0_scratch14 cc0_scratch15 cc0_scratch16 cc0_scratch17 cc0_scratch18 =
      plan (F := F) := by
  rfl

end Cert.KernelIdeal.Gen

end
-- ==== Proof.KernelIdeal.Start.lean ====
module

public import proofs.«01_k».proof.Proof.KernelIdeal.Slots
public import proofs.«01_k».proof.Proof.KernelIdeal.PlanEq

/-! The barrier: a device hands its receiving slots to the devices that send to it, is handed those it
sends to, and then runs the two phases. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device starts from -/

/-- Where a device stands at its own semaphores. -/
def places (c : Dev nD) : sProp 𝕄 :=
  iprop(atPos ER (barCell c) 0 ∅ 0 ∗ (bigSep Finset.univ fun i => atPos ER (sendCell c i) 0 ∅ 0)
    ∗ bigSep Finset.univ fun i => atPos ER (recvCell c i) 0 ∅ 0)
/-- The duties it discharges: one at each neighbour's barrier, and both of each message it sends. -/
def payToks (c : Dev nD) : sProp 𝕄 :=
  iprop((bigSep Finset.univ fun p : Duty => dutyTok ER (barCell (pv p c)) 0 p)
    ∗ (bigSep Finset.univ fun i => dutyTok ER (sendCell c i) 0 (false, false))
    ∗ bigSep Finset.univ fun i => dutyTok ER (recvCell (nx (lane i) c) i) 0 (false, false))
def linear (c : Dev nD) : sProp 𝕄 := iprop(places c ∗ payToks c)
/-- The credit it is launched with. -/
def credit (c : Dev nD) : sProp 𝕄 :=
  iprop(cred (tallyAt (barCell c) () 4) ∗ bigSep Finset.univ fun i => cred (tallyAt (recvCell c i) () (cnt i)))
/-- Its working buffers. -/
def scratch (c : Dev nD) : sProp 𝕄 :=
  iprop(buf pM c ∗ buf (aM false) c ∗ buf (aM true) c ∗ bigSep Finset.univ (stAny c) ∗ bigSep Finset.univ (rvAny c))

/-- What the barrier hands over is the slots all its messages go to. -/
theorem handed (c : Dev nD) : (bigSep Finset.univ fun p => barPay p c) = (bigSep Finset.univ fun i => rvAny (nx (lane i) c) i : sProp 𝕄) := by
  rw [by_lane fun i => rvAny (nx (lane i) c) i]
  refine bigSep_congr fun p _ => ?_
  unfold barPay
  exact bigSep_congr fun i hi => by rw [(Finset.mem_filter.mp hi).2]

theorem give (c : Dev nD) : (bigSep Finset.univ (rvAny c) : sProp 𝕄)
    = iprop(barPay (false, false) (pv (false, false) c) ∗ barPay (false, true) (pv (false, true) c)
        ∗ barPay (true, false) (pv (true, false) c) ∗ barPay (true, true) (pv (true, true) c)) := by
  unfold barPay
  rw [by_lane, bigSep_lanes, nx_pv, nx_pv, nx_pv, nx_pv]

theorem all_toSend (c : Dev nD) : (bigSep (from_ 0) (toSend c) : sProp 𝕄)
    = iprop(bigSep Finset.univ (stAny c) ∗ (bigSep Finset.univ fun i => rvAny (nx (lane i) c) i)
        ∗ (bigSep Finset.univ fun i => atPos ER (sendCell c i) 0 ∅ 0) ∗ (bigSep Finset.univ fun i => dutyTok ER (sendCell c i) 0 (false, false))
        ∗ bigSep Finset.univ fun i => dutyTok ER (recvCell (nx (lane i) c) i) 0 (false, false)) := by
  rw [from_zero]
  unfold toSend
  rw [bigSep_sep', bigSep_sep', bigSep_sep', bigSep_sep']
theorem all_toGet (c : Dev nD) : (bigSep (from_ 0) (toGet c) : sProp 𝕄)
    = iprop((bigSep Finset.univ fun i => cred (tallyAt (recvCell c i) () (cnt i))) ∗ bigSep Finset.univ fun i => atPos ER (recvCell c i) 0 ∅ 0) := by
  rw [from_zero]
  unfold toGet
  rw [bigSep_sep']
theorem all_drained (c : Dev nD) : (bigSep Finset.univ (drained c) : sProp 𝕄)
    = iprop(bigSep Finset.univ (stAny c) ∗ bigSep Finset.univ fun i => semVal (sendCell c i) 0) := by
  unfold drained
  rw [bigSep_sep']
theorem all_gotten (c : Dev nD) : (bigSep Finset.univ (gotten c) : sProp 𝕄)
    = iprop(bigSep Finset.univ (rvAny c) ∗ bigSep Finset.univ fun i => semVal (recvCell c i) 0) := by
  unfold gotten
  rw [bigSep_sep']

theorem bar_dev1 : ∀ c : Dev nD, (⟨k0_dev1 c, k0_dev1_lt c⟩ : Dev nD) = pv (false, false) c := by decide +kernel
theorem bar_dev2 : ∀ c : Dev nD, (⟨k0_dev2 c, k0_dev2_lt c⟩ : Dev nD) = pv (false, true) c := by decide +kernel
theorem bar_dev3 : ∀ c : Dev nD, (⟨k0_dev3 c, k0_dev3_lt c⟩ : Dev nD) = pv (true, false) c := by decide +kernel
theorem bar_dev4 : ∀ c : Dev nD, (⟨k0_dev4 c, k0_dev4_lt c⟩ : Dev nD) = pv (true, true) c := by decide +kernel

section
variable (X : Dev nD → Vec F S2048x64 .f32) (W : Dev nD → Vec F S64x2048 .f32) (K : Dev nD × Key → ℕ)

/-- One signal to a neighbour's barrier. -/
theorem wp_ready (c n : Dev nD) (p : Duty) (hn : n = pv p c) (O₁ O₂ : CellTallies nD τ sig Unit)
    (hO : O₁ = O₂ + tallyAt (barCell (pv p c)) () 1) (k : PUnit → P F) (Kt : PUnit → sProp 𝕄) (O : Waits sig Unit) :
    iprop(ctx X W K ∗ owes (c : Thread nD τ) O₁ O ∗ dutyTok ER (barCell (pv p c)) 0 p ∗ barPay p (pv p c)
        ∗ (owes (c : Thread nD τ) O₂ O -∗ WP c (k ⟨⟩) Kt))
      ⊢ WP c ((semSignalWord n barS 1#32).bind k) Kt := by
  subst hn
  simp only [semSignalWord, Prog.lift, Prog.bind_op, Prog.bind_ret, Prog.pure_eq_ret]
  iintro ⟨#Hc, HO, Ht, Hp, Hk⟩
  iapply (Rounds.wp_signal 𝒱₀ ER (plan1 X W) (c : Thread nD τ) none (dst := (pv p c : Thread nD τ)) (κ := K (pv p c, .inl ()))
      (d := p) (by rw [duties_bar]; exact Finset.mem_univ _) ((amount_bar X W (pv p c) p).trans (by decide)) () O₂ hO)
    $$ [HO Ht Hp]
  · isplitr; · iapply (ctx_inv X W K (pv p c) (.inl ())); iexact Hc
    isplitl [HO]; · iexact HO
    isplitl [Ht]; · iexact Ht
    isplitl [Hp]; · rw [payload_bar]; iexact Hp
    iapply (ctx_reached X W K (pv p c) (.inl ())); iexact Hc
  iexact Hk

theorem ctx_bar (c : Dev nD) : ctx X W K ⊢ MayWait (c : Thread nD τ) (.reg barS) () (owed c 0) := by
  unfold ctx
  exact sep_elim_right.trans (mayWait_bar (F := F) c)

/-- The wait at its own. -/
theorem wp_gate (c : Dev nD) (k : PUnit → P F) (Kt : PUnit → sProp 𝕄) (O : Waits sig Unit) :
    iprop(ctx X W K ∗ owes (c : Thread nD τ) (owed c 0) O ∗ cred (tallyAt (barCell c) () 4) ∗ atPos ER (barCell c) 0 ∅ 0
        ∗ (((∃ O, owes (c : Thread nD τ) (owed c 0) O) ∗ (bigSep Finset.univ fun i => rvAny (nx (lane i) c) i) ∗ semVal (barCell c) 0) -∗ WP c (k ⟨⟩) Kt))
      ⊢ WP c ((semWaitWord barS 4#32).bind k) Kt := by
  simp only [semWaitWord, Prog.lift, Prog.bind_op, Prog.bind_ret, Prog.pure_eq_ret]
  iintro ⟨#Hc, HO, Hcr, Hat, Hk⟩
  iapply (Rounds.wp_wait_rest_token 𝒱₀ ER (plan1 X W) (c : Thread nD τ) none (κ := K (c, .inl ()))
      (wpE_semWait_eq 𝒱₀ (c : Thread nD τ) none Set.univ) (Set.mem_univ _) () (O := owed c 0) (W := O) (R := 0) (m := 0) (T := ∅)
      (by rw [expect_bar]; decide)) $$ [Hcr HO Hat]
  · isplitr; · iapply (ctx_inv X W K c (.inl ())); iexact Hc
    isplitl [Hcr]; · iexact Hcr
    isplitl [HO]; · iexact HO
    isplitr; · iapply (ctx_bar X W K c); iexact Hc
    iexact Hat
  iintro ⟨HO, Hat, -, Hpay⟩
  ihave Hp := (Entails.of_eq ((rest_bar X W c).trans (handed c))) $$ Hpay
  imod (Rounds.cell_close ER (plan1 X W) (Set.mem_univ (K (c, .inl ()))) (fun h => h) (R := 0 + 1) (duties_later X W (barCell c))) $$ [Hat] with Hz
  · isplitr; · iapply (ctx_inv X W K c (.inl ())); iexact Hc
    iexact Hat
  iapply Hk
  isplitl [HO]; · iexists _; iexact HO
  isplitl [Hp] <;> iassumption

/-- The whole body. -/
theorem wp_plan (c : Dev nD) (Kt : PUnit → sProp 𝕄) :
    iprop(ctx X W K ∗ linear c ∗ credit c ∗ (∃ O, owes (c : Thread nD τ) (O₀ c) O) ∗ scratch c ∗ blocks X W c ∗ buf oM c
        ∗ ((done X W c ∗ semVal (barCell c) 0) -∗ Kt ⟨⟩))
      ⊢ WP c plan Kt := by
  have hplan : (plan : P F) = .op .deviceId fun c => (semSignalWord (⟨k0_dev1 c, k0_dev1_lt c⟩ : Dev nD) barS 1#32).bind fun _ =>
      (semSignalWord (⟨k0_dev2 c, k0_dev2_lt c⟩ : Dev nD) barS 1#32).bind fun _ =>
      (semSignalWord (⟨k0_dev3 c, k0_dev3_lt c⟩ : Dev nD) barS 1#32).bind fun _ =>
      (semSignalWord (⟨k0_dev4 c, k0_dev4_lt c⟩ : Dev nD) barS 1#32).bind fun _ =>
      (semWaitWord barS 4#32).bind fun _ => rest c := rfl
  rw [hplan]
  unfold WP
  rw [wp_deviceId]
  unfold linear places payToks credit scratch
  rw [give, bigSep_lanes]
  iintro ⟨#Hc, ⟨⟨HaB, HaS, HaV⟩, ⟨Ht1, Ht2, Ht3, Ht4⟩, HtS, HtV⟩, ⟨HcB, HcV⟩, ⟨%O, HO⟩, ⟨Hp, Ha0, Ha1, Hst, Hr1, Hr2, Hr3, Hr4⟩, Hb, Ho, Hk⟩
  iapply (wp_ready X W K c _ (false, false) (bar_dev1 c) (O₀ c) _ rfl); isplitr; · iexact Hc
  isplitl [HO]; · iexact HO
  isplitl [Ht1]; · iexact Ht1
  isplitl [Hr1]; · iexact Hr1
  iintro HO
  iapply (wp_ready X W K c _ (false, true) (bar_dev2 c) _ _ rfl); isplitr; · iexact Hc
  isplitl [HO]; · iexact HO
  isplitl [Ht2]; · iexact Ht2
  isplitl [Hr2]; · iexact Hr2
  iintro HO
  iapply (wp_ready X W K c _ (true, false) (bar_dev3 c) _ _ rfl); isplitr; · iexact Hc
  isplitl [HO]; · iexact HO
  isplitl [Ht3]; · iexact Ht3
  isplitl [Hr3]; · iexact Hr3
  iintro HO
  iapply (wp_ready X W K c _ (true, true) (bar_dev4 c) _ _ rfl); isplitr; · iexact Hc
  isplitl [HO]; · iexact HO
  isplitl [Ht4]; · iexact Ht4
  isplitl [Hr4]; · iexact Hr4
  iintro HO
  iapply (wp_gate X W K c); isplitr; · iexact Hc
  isplitl [HO]; · iexact HO
  isplitl [HcB]; · iexact HcB
  isplitl [HaB]; · iexact HaB
  iintro ⟨HO, Hrv, Hz⟩
  iapply (wp_rest X W K c); isplitr; · iexact Hc
  isplitl [HO Hst Hrv HaS HtS HtV HcV HaV]
  · unfold St
    rw [all_toSend, all_toGet, upto_zero, bigSep_empty, bigSep_empty]
    isplitl [HO]; · iexact HO
    isplitl [Hst Hrv HaS HtS HtV]
    · isplitl [Hst]; · iexact Hst
      isplitl [Hrv]; · iexact Hrv
      isplitl [HaS]; · iexact HaS
      isplitl [HtS] <;> iassumption
    isplitr; · iempintro
    isplitl
    · isplitl [HcV] <;> iassumption
    · iempintro
  isplitl [Hb]; · iexact Hb
  isplitl [Hp]; · iapply (holds_of_buf pM c (pB X W c)); iexact Hp
  isplitl [Ha0 Ha1]
  · unfold sums
    isplitl [Ha0]
    · iapply (holds_of_buf (aM false) c (aB X W false c)); iexact Ha0
    · iapply (holds_of_buf (aM true) c (aB X W true c)); iexact Ha1
  isplitl [Ho]; · iapply (holds_of_buf oM c (oB X W c)); iexact Ho
  iintro Hd
  iapply Hk
  isplitl [Hd] <;> iassumption

end

end Cert.KernelIdeal.Gen

end
-- ==== Proof.KernelIdeal.Data.lean ====
module

public import proofs.«01_k».proof.Proof.KernelIdeal.Start
public import proofs.«01_k».proof.Proof.Gen.KernelIdeal.Frame

/-! The region's proof data and its body obligation: what a device holds before and after the one
point of the grid, and that the body takes it from the one to the other. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The two blocks a device starts with. -/
def xOf (c : Dev nD) : Vec F S2048x64 .f32 := (win0_0.blk (0 : Fin 1)).view.read (Elt F) (m ((c : Thread nD τ).loc main_arg0))
def wOf (c : Dev nD) : Vec F S64x2048 .f32 := (win0_1.blk (0 : Fin 1)).view.read (Elt F) (m ((c : Thread nD τ).loc main_arg1))

/-- What a device's body starts from: the cells' records at some names, its places and duties, its credit, the levels. -/
def start (c : Dev nD) : sProp 𝕄 :=
  iprop((∃ K, records (xOf m) (wOf m) K ∗ linear c) ∗ credit c ∗ levAts L lv)

def Φ₀ (c : Dev nD) : sProp 𝕄 := iprop(start m c ∗ scratch c)
/-- What it ends with: its working buffers, and every semaphore of its own at zero. -/
def Φ₁ (c : Dev nD) : sProp 𝕄 :=
  iprop(scratch c ∗ (bigSep Finset.univ fun i => semVal (sendCell c i) 0) ∗ (bigSep Finset.univ fun i => semVal (recvCell c i) 0) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xOf m c
    | ⟨1, _⟩ => wOf m c
    | ⟨2, _⟩ => oB (xOf m) (wOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 3) ∗ Φ (1 : Fin 3) ∗ Φ (2 : Fin 3)) := bigSep_W0 Φ

/-! ## Whole buffers, in the ways they are written -/

theorem buf_whole (b : Ref sig .tc) (c : Dev nD) :
    (buf (Memref.whole b) c : sProp 𝕄) = iprop(∃ f : Buf (Elt F) ((c : Thread nD τ).loc b), ((c : Thread nD τ).loc b) ↦{fullShare} f) := by
  unfold buf
  rw [Memref.view_whole, View.set_whole]

theorem holds_of_owns {s : Shape} (M : Memref sig .tc .vmem s .f32) (c : Dev nD) (X : s.Idx → F .f32) :
    (owns (Ix := Unit) (Name := ℕ) (U := UU) (Lvl := ℕ) (c : Thread nD τ) M fullShare X : sProp 𝕄) ⊢ holds M c Finset.univ X := by
  unfold holds owns
  iintro ⟨%f, %hf, H⟩
  iexists f
  isplitr
  · ipureintro; intro i _; rw [hf]
  · iexact H
theorem owns_of_holds {s : Shape} (M : Memref sig .tc .vmem s .f32) (c : Dev nD) (X : s.Idx → F .f32) :
    holds M c Finset.univ X ⊢ (owns (Ix := Unit) (Name := ℕ) (U := UU) (Lvl := ℕ) (c : Thread nD τ) M fullShare X : sProp 𝕄) := by
  unfold holds owns
  iintro ⟨%f, %hf, H⟩
  iexists f
  isplitr
  · ipureintro; exact funext fun i => hf i (Finset.mem_univ i)
  · iexact H
theorem buf_of_owns {s : Shape} (M : Memref sig .tc .vmem s .f32) (c : Dev nD) (X : s.Idx → F .f32) :
    (owns (Ix := Unit) (Name := ℕ) (U := UU) (Lvl := ℕ) (c : Thread nD τ) M fullShare X : sProp 𝕄) ⊢ buf M c := by
  unfold buf owns
  iintro ⟨%f, -, H⟩
  iexists f
  iexact H

/-! ## The body -/

theorem before_x (c : Dev nD) (t : Fin cfg0.N) (d) : (dats m 0 c).before (0 : Fin 3) t d = xOf m c := by
  rw [fin_N0 t]
  unfold Dat.before
  rw [if_pos (fetch0_0 t0_0)]
  rfl
theorem before_w (c : Dev nD) (t : Fin cfg0.N) (d) : (dats m 0 c).before (1 : Fin 3) t d = wOf m c := by
  rw [fin_N0 t]
  unfold Dat.before
  rw [if_pos (fetch0_1 t0_0)]
  rfl

/-- An array a device has, as it has it on `M`. -/
abbrev own {s : Shape} (M : Memref sig .tc .vmem s .f32) (c : Dev nD) (X : s.Idx → F .f32) : sProp 𝕄 :=
  owns (Ix := Unit) (Name := ℕ) (U := UU) (Lvl := ℕ) (c : Thread nD τ) M fullShare X

def bodyPre (c : Dev nD) : sProp 𝕄 :=
  iprop(Φ₀ m c ∗ (dats m 0 c).owesAt () t0_0.castSucc
    ∗ (∃ d, own xM c ((dats m 0 c).before (0 : Fin 3) t0_0 d)) ∗ (∃ d, own wM c ((dats m 0 c).before (1 : Fin 3) t0_0 d))
    ∗ (∃ d, own oM c ((dats m 0 c).before (2 : Fin 3) t0_0 d)))
def bodyPost (c : Dev nD) : sProp 𝕄 :=
  iprop(Φ₁ c ∗ (dats m 0 c).owesAt () t0_0.succ ∗ own xM c (xOf m c) ∗ own wM c (wOf m c) ∗ own oM c (oB (xOf m) (wOf m) c))

theorem body_run (c : Dev nD) : bodyPre m c ⊢ WP c plan (fun _ => bodyPost m c) := by
  unfold bodyPre Φ₀ start Dat.owesAt Pipeline.owesWithin
  rw [show (dats m 0 c).owed t0_0.castSucc = O₀ c from rfl]
  iintro ⟨⟨⟨⟨%K, #HR, Hlin⟩, Hcr, #Hlev⟩, Hscr⟩, ⟨%O, -, HO⟩, ⟨%d0, Hx⟩, ⟨%d1, Hw⟩, ⟨%d2, Ho⟩⟩
  rw [before_x, before_w]
  iapply (wp_plan (xOf m) (wOf m) K c)
  isplitr
  · unfold ctx
    isplitr; · iexact HR
    iexact Hlev
  isplitl [Hlin]; · iexact Hlin
  isplitl [Hcr]; · iexact Hcr
  isplitl [HO]; · iexists O; iexact HO
  isplitl [Hscr]; · iexact Hscr
  isplitl [Hx Hw]
  · unfold blocks
    isplitl [Hx]
    · iapply (holds_of_owns xM c (xOf m c)); iexact Hx
    · iapply (holds_of_owns wM c (wOf m c)); iexact Hw
  isplitl [Ho]; · iapply (buf_of_owns oM c _); iexact Ho
  unfold done sums blocks
  rw [all_drained, all_gotten]
  iintro ⟨⟨⟨%O', HO⟩, ⟨Hst, HzS⟩, ⟨Hrv, HzV⟩, ⟨Hx, Hw⟩, Hp, ⟨Ha0, Ha1⟩, Ho⟩, HzB⟩
  unfold bodyPost Φ₁ scratch Dat.owesAt Pipeline.owesWithin
  rw [show (dats m 0 c).owed t0_0.succ = 0 from rfl]
  isplitl [Hp Ha0 Ha1 Hst Hrv HzS HzV HzB]
  · isplitl [Hp Ha0 Ha1 Hst Hrv]
    · isplitl [Hp]; · iapply (buf_of_holds pM c Finset.univ (pB (xOf m) (wOf m) c)); iexact Hp
      isplitl [Ha0]; · iapply (buf_of_holds (aM false) c Finset.univ (aB (xOf m) (wOf m) false c)); iexact Ha0
      isplitl [Ha1]; · iapply (buf_of_holds (aM true) c Finset.univ (aB (xOf m) (wOf m) true c)); iexact Ha1
      isplitl [Hst] <;> iassumption
    isplitl [HzS]; · iexact HzS
    isplitl [HzV] <;> iassumption
  isplitl [HO]
  · iexists O'
    isplitr; · ipureintro; exact fun _ _ => Or.inl trivial
    iexact HO
  isplitl [Hx]; · iapply (owns_of_holds xM c (xOf m c)); iexact Hx
  isplitl [Hw]; · iapply (owns_of_holds wM c (wOf m c)); iexact Hw
  iapply (owns_of_holds oM c (oB (xOf m) (wOf m) c)); iexact Ho

set_option maxRecDepth 100000 in
/-- The library's body obligation on core `c`. -/
theorem body_obligation (c : Dev nD) : BodyObligation (dats m 0 c) (defs₀ (F := F)) 𝒱₀ () Set.univ := fun t => by
  rw [fin_N0 t]
  rw [bigSep_W, bigSep_W]
  show bodyPre m c ⊢ wp frame (wpE (defs₀ (F := F)) 𝒱₀ (c : Thread nD τ) none) Set.univ (bodyAt0 t0_0) (fun _ => bodyPost m c)
  have h : (bodyAt0 (F := F) t0_0) = plan := body_eq_plan
  rw [h]
  exact body_run m c

end Cert.KernelIdeal.Gen

end
-- ==== Proof.KernelIdeal.Deal.lean ====
module

public import proofs.«01_k».proof.Proof.KernelIdeal.Data

/-! The launch deals every device its places, its duties and its credit. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores and the duties, all devices together -/

theorem ownSemFacts : Pipeline.OwnSemFacts cfg0.spec osem where
  isScoped := by decide +kernel
  inj a b h := dsem_inj a b (by injection h)
  disj := by decide +kernel

def kcell (ck : Dev nD × Key) : GSem nD τ sig := cell ck.1 ck.2
theorem kcell_injective : Function.Injective kcell := fun a b h => Prod.ext (cell_inj h).1 (cell_inj h).2
def allCells : Finset (GSem nD τ sig) := Finset.univ.map ⟨kcell, kcell_injective⟩

/-- A device's duties as minted, at its own semaphores: the barrier's four, one for each send, one for each receipt. -/
abbrev Tok : Type := Duty ⊕ (Msg ⊕ Msg)
def tokKey : Tok → Key × Duty
  | .inl p => (.inl (), p)
  | .inr (.inl i) => (.inr (.inl i), (false, false))
  | .inr (.inr i) => (.inr (.inr i), (false, false))
theorem tokKey_injective : Function.Injective tokKey := by
  rintro (p | (i | i)) (q | (j | j)) h
  · exact congrArg Sum.inl (congrArg Prod.snd h)
  · cases congrArg Prod.fst h
  · cases congrArg Prod.fst h
  · cases congrArg Prod.fst h
  · exact congrArg (fun x => Sum.inr (Sum.inl x)) (Sum.inl.inj (Sum.inr.inj (congrArg Prod.fst h)))
  · cases congrArg Prod.fst h
  · cases congrArg Prod.fst h
  · cases congrArg Prod.fst h
  · exact congrArg (fun x => Sum.inr (Sum.inr x)) (Sum.inr.inj (Sum.inr.inj (congrArg Prod.fst h)))
def tokOf (cj : Dev nD × Tok) : GSem nD τ sig × ℕ × Duty := (cell cj.1 (tokKey cj.2).1, 0, (tokKey cj.2).2)
theorem tokOf_injective : Function.Injective tokOf := by
  rintro ⟨c, j⟩ ⟨c', j'⟩ h
  obtain ⟨h1, h2⟩ := cell_inj (congrArg (fun x => x.1) h)
  exact Prod.ext h1 (tokKey_injective (Prod.ext h2 (congrArg (fun x => x.2.2) h)))
def allToks : Finset (GSem nD τ sig × ℕ × Duty) := Finset.univ.map ⟨tokOf, tokOf_injective⟩

def u₀ : UU :=
  (initOf (Pipeline.cells cfgs cellOf_inj) (Pipeline.launchToks cfgs cellOf_inj), initOf allCells allToks)

theorem bigSep_unit (Φ : Unit → sProp 𝕄) : bigSep Finset.univ Φ = Φ () :=
  bigSep_univ_eq_bigSepL [()] (by decide) (by decide) Φ
/-- A family over a device's semaphores: at the barrier, at the sends, at the receipts. -/
theorem bigSep_key (Φ : Key → sProp 𝕄) : bigSep Finset.univ Φ
    = iprop(Φ (.inl ()) ∗ (bigSep Finset.univ fun i => Φ (.inr (.inl i))) ∗ bigSep Finset.univ fun i => Φ (.inr (.inr i))) := by
  rw [bigSep_univ_sum, bigSep_unit, bigSep_univ_sum]; rfl

/-- The duties at device `c`'s own semaphores. -/
def toks (c : Dev nD) : sProp 𝕄 :=
  iprop((bigSep Finset.univ fun p : Duty => dutyTok ER (barCell c) 0 p)
    ∗ (bigSep Finset.univ fun i => dutyTok ER (sendCell c i) 0 (false, false))
    ∗ bigSep Finset.univ fun i => dutyTok ER (recvCell c i) 0 (false, false))

theorem toks_eq (c : Dev nD) :
    (bigSep Finset.univ fun j : Tok => (dutyTok ER (tokOf (c, j)).1 (tokOf (c, j)).2.1 (tokOf (c, j)).2.2 : sProp 𝕄)) = toks c := by
  rw [bigSep_univ_sum, bigSep_univ_sum]; rfl

section
variable (X : Dev nD → Vec F S2048x64 .f32) (W : Dev nD → Vec F S64x2048 .f32)

/-- What the launch element deals device `c`. -/
def G (c : Dev nD) : sProp 𝕄 :=
  iprop((bigSep Finset.univ fun k : Key => roundState ER (plan1 X W) (cell c k) 0)
    ∗ (bigSep Finset.univ fun k : Key => iprop(atPos ER (cell c k) 0 ∅ 0 ∗ reached ER (cell c k) 0)) ∗ toks c)
/-- What the global step makes of it. -/
def G' (c : Dev nD) : sProp 𝕄 := iprop(∃ K, records X W K ∗ linear c)

theorem fund_all : BI.own (ER (initOf allCells allToks)) ⊢ (|==> bigSep Finset.univ (G X W) : sProp 𝕄) := by
  have hX (Φ : GSem nD τ sig → sProp 𝕄) : bigSep allCells Φ = bigSep Finset.univ fun c : Dev nD => bigSep Finset.univ fun k : Key => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (plan1 X W) allCells allToks) $$ HX with ⟨Hst, Hr, Hat, Htok⟩
  imodintro
  ihave Hst' := (Entails.of_eq (hX fun g => roundState ER (plan1 X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide +kernel) (by decide)]; rfl
theorem ownSems0_eq (c : Dev nD) : (Pipeline.ownSems0 (Ix := Unit) (Name := ℕ) (U := UU) (Lvl := ℕ) (Val := Elt F) (τ := τ) osem c : sProp 𝕄)
    = iprop((bigSep Finset.univ fun i => semVal (sendCell c i) 0) ∗ bigSep Finset.univ fun i => semVal (recvCell c i) 0) := by
  unfold Pipeline.ownSems0
  rw [bigSep_univ_sum]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (cell c k) 0 : sProp 𝕄) := by
  rw [ownSems0_eq, unscopedSems0_eq, bigSep_key]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k : Key => iprop(∃ κ : ℕ, cellInv ER (plan1 X W) κ (cell c k)))
          ∗ (bigSep Finset.univ fun k : Key => iprop(atPos ER (cell c k) 0 ∅ 0 ∗ reached ER (cell c k) 0)) ∗ toks c) := by
  have hopen : iprop((bigSep Finset.univ fun k : Key => semVal (cell c k) 0) ∗ bigSep Finset.univ fun k : Key => roundState ER (plan1 X W) (cell c k) 0)
      ⊢ (|={Set.univ}=> bigSep Finset.univ fun k : Key => iprop(∃ κ : ℕ, cellInv ER (plan1 X W) κ (cell c k)) : sProp 𝕄) := by
    rw [← bigSep_sep']
    exact (bigSep_mono fun k _ => (Rounds.body_intro ER (plan1 X W) (cell c k)).trans inv_alloc).trans (bigSep_fupd _ _)
  unfold G
  iintro ⟨Hos, Hus, Hst, Hat, Htok⟩
  ihave Hv := (sems0_eq (F := F) c) $$ [Hos Hus]
  · isplitl [Hos] <;> iassumption
  imod hopen $$ [Hv Hst] with Hinv
  · isplitl [Hv] <;> iassumption
  imodintro
  isplitl [Hinv]; · iexact Hinv
  isplitl [Hat]; · iexact Hat
  iexact Htok

/-! ## The duties go to the devices that discharge them -/

/-- The devices, each in its lane's place. -/
def turn (p : Duty) : Dev nD ≃ Dev nD := ⟨nx p, pv p, pv_nx p, nx_pv p⟩

theorem toks_around : (bigSep Finset.univ fun c : Dev nD => (toks c : sProp 𝕄)) = bigSep Finset.univ fun c : Dev nD => payToks c := by
  have hb : (bigSep Finset.univ fun c : Dev nD => bigSep Finset.univ fun p : Duty => (dutyTok ER (barCell c) 0 p : sProp 𝕄))
      = bigSep Finset.univ fun c : Dev nD => bigSep Finset.univ fun p : Duty => dutyTok ER (barCell (pv p c)) 0 p := by
    rw [bigSep_univ_comm, bigSep_univ_comm (fun (c : Dev nD) (p : Duty) => (dutyTok ER (barCell (pv p c)) 0 p : sProp 𝕄))]
    exact bigSep_congr fun p _ => bigSep_univ_equiv (turn p).symm fun c => (dutyTok ER (barCell c) 0 p : sProp 𝕄)
  have hr : (bigSep Finset.univ fun c : Dev nD => bigSep Finset.univ fun i : Msg => (dutyTok ER (recvCell c i) 0 (false, false) : sProp 𝕄))
      = bigSep Finset.univ fun c : Dev nD => bigSep Finset.univ fun i : Msg => dutyTok ER (recvCell (nx (lane i) c) i) 0 (false, false) := by
    rw [bigSep_univ_comm, bigSep_univ_comm (fun (c : Dev nD) (i : Msg) => (dutyTok ER (recvCell (nx (lane i) c) i) 0 (false, false) : sProp 𝕄))]
    exact bigSep_congr fun i _ => bigSep_univ_equiv (turn (lane i)) fun c => (dutyTok ER (recvCell c i) 0 (false, false) : sProp 𝕄)
  unfold toks payToks
  rw [bigSep_sep', bigSep_sep', bigSep_sep', bigSep_sep', hb, hr]

theorem places_eq (c : Dev nD) : (bigSep Finset.univ fun k : Key => (atPos ER (cell c k) 0 ∅ 0 : sProp 𝕄)) = places c := by
  rw [bigSep_key]; rfl

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_all : iprop((bigSep Finset.univ fun c : Dev nD => bigSep Finset.univ fun k : Key => (atPos ER (cell c k) 0 ∅ 0 : sProp 𝕄))
      ∗ bigSep Finset.univ fun c : Dev nD => toks c) = (bigSep Finset.univ fun c : Dev nD => linear c : sProp 𝕄) := by
  rw [toks_around, bigSep_congr fun (c : Dev nD) _ => places_eq c]
  unfold linear
  rw [bigSep_sep']

theorem ghost_intro (K : Dev nD × Key → ℕ) (c : Dev nD) : iprop(records X W K ∗ linear c) ⊢ G' X W c := by
  unfold G'
  iintro H
  iexists K
  iexact H

theorem regroup :
    (bigSep Finset.univ fun c : Dev nD => iprop((bigSep Finset.univ fun k : Key => iprop(∃ κ : ℕ, cellInv ER (plan1 X W) κ (cell c k)))
          ∗ (bigSep Finset.univ fun k : Key => iprop(atPos ER (cell c k) 0 ∅ 0 ∗ reached ER (cell c k) 0)) ∗ toks c) : sProp 𝕄)
      ⊢ bigSep Finset.univ (G' X W) := by
  rw [bigSep_sep', bigSep_sep', ← bigSep_univ_prod (fun ck : Dev nD × Key => iprop(∃ κ : ℕ, cellInv ER (plan1 X W) κ (cell ck.1 ck.2))),
    bigSep_congr (s := Finset.univ) (fun (c : Dev nD) _ => bigSep_sep' Finset.univ (fun k : Key => (atPos ER (cell c k) 0 ∅ 0 : sProp 𝕄)) (fun k => reached ER (cell c k) 0)),
    bigSep_sep', ← bigSep_univ_prod (fun ck : Dev nD × Key => (reached ER (cell ck.1 ck.2) 0 : sProp 𝕄))]
  iintro ⟨HI, ⟨Hat, #HR⟩, Htok⟩
  ihave HK := (BI.bigSep_exists_pi Finset.univ (fun (ck : Dev nD × Key) (κ : ℕ) => (cellInv ER (plan1 X W) κ (cell ck.1 ck.2) : sProp 𝕄))) $$ HI
  icases HK with ⟨%K, #HI⟩
  iapply (with_records (R := records X W K) fun c _ => ghost_intro X W K c)
  isplitr
  · unfold records; isplitl; · iexact HI
    iexact HR
  · iapply (Entails.of_eq (linear_all (F := F)))
    isplitl [Hat]; · iexact Hat
    iexact Htok

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

end

/-! ## The launch credit -/

theorem tally_cell (c c' : Dev nD) (k k' : Key) (n : ℕ) :
    (tallyAt (cell c' k') () n : CellTallies nD τ sig Unit) (cell c k) () = if c' = c ∧ k' = k then n else 0 := by
  rw [tallyAt_apply]
  by_cases h : c' = c ∧ k' = k
  · rw [if_pos h, if_pos]; exact ⟨by rw [h.1, h.2], rfl⟩
  · rw [if_neg h, if_neg]; exact fun h' => h ⟨(cell_inj h'.1).1.symm, (cell_inj h'.1).2.symm⟩

theorem owed_at (d c : Dev nD) (k : Key) :
    owed d 0 (cell c k) () = ∑ j : Msg, if nx (lane j) d = c ∧ (.inr (.inr j) : Key) = k then cnt j else 0 := by
  unfold owed
  rw [show (Finset.univ.filter fun i : Msg => 0 ≤ num i) = Finset.univ from from_zero, Finset.sum_apply, Finsupp.finset_sum_apply]
  exact Finset.sum_congr rfl fun j _ => tally_cell c (nx (lane j) d) k (.inr (.inr j)) (cnt j)

theorem O₀_at (d c : Dev nD) (k : Key) : O₀ d (cell c k) ()
    = (∑ j : Msg, if nx (lane j) d = c ∧ (.inr (.inr j) : Key) = k then cnt j else 0)
      + (if pv (true, true) d = c ∧ (.inl () : Key) = k then 1 else 0) + (if pv (true, false) d = c ∧ (.inl () : Key) = k then 1 else 0)
      + (if pv (false, true) d = c ∧ (.inl () : Key) = k then 1 else 0) + (if pv (false, false) d = c ∧ (.inl () : Key) = k then 1 else 0) := by
  have hb (p : Duty) : (tallyAt (barCell (pv p d)) () 1 : CellTallies nD τ sig Unit) (cell c k) () = if pv p d = c ∧ (.inl () : Key) = k then 1 else 0 :=
    tally_cell c (pv p d) k (.inl ()) 1
  unfold O₀
  simp only [Pi.add_apply, Finsupp.add_apply]
  rw [hb, hb, hb, hb, owed_at]

theorem sum_pv (p : Duty) (c : Dev nD) : (∑ d : Dev nD, if pv p d = c then 1 else 0) = 1 := by
  rw [Finset.sum_eq_single (nx p c)]
  · rw [if_pos (pv_nx p c)]
  · intro d _ hd; exact if_neg fun h => hd (by rw [← h, nx_pv])
  · intro h; exact absurd (Finset.mem_univ _) h

theorem owed_bar (c : Dev nD) : (∑ d : Dev nD, O₀ d (cell c (.inl ())) ()) = 4 := by
  have h (d : Dev nD) : O₀ d (cell c (.inl ())) ()
      = (if pv (true, true) d = c then 1 else 0) + (if pv (true, false) d = c then 1 else 0)
        + (if pv (false, true) d = c then 1 else 0) + (if pv (false, false) d = c then 1 else 0) := by
    rw [O₀_at, Finset.sum_eq_zero fun j _ => if_neg fun h => by cases h.2]
    simp only [and_true, Nat.zero_add]
  rw [Finset.sum_congr rfl fun d _ => h d]
  simp only [Finset.sum_add_distrib, sum_pv]

theorem owed_recv (c : Dev nD) (i : Msg) : (∑ d : Dev nD, O₀ d (cell c (.inr (.inr i))) ()) = cnt i := by
  have h (d : Dev nD) : O₀ d (cell c (.inr (.inr i))) () = if nx (lane i) d = c then cnt i else 0 := by
    rw [O₀_at, Finset.sum_eq_single i]
    · simp only [and_true, reduceCtorEq, and_false, if_false, Nat.add_zero]
    · intro j _ hj; exact if_neg fun h => hj (Sum.inr.inj (Sum.inr.inj h.2))
    · intro h; exact absurd (Finset.mem_univ _) h
  rw [Finset.sum_congr rfl fun d _ => h d, Finset.sum_eq_single (pv (lane i) c)]
  · rw [if_pos (nx_pv _ _)]
  · intro d _ hd; exact if_neg fun h => hd (by rw [← h, pv_nx])
  · intro h; exact absurd (Finset.mem_univ _) h

theorem launch_at (c : Dev nD) (k : Key) (n : ℕ) (h : (∑ d : Dev nD, O₀ d (cell c k) ()) = n) :
    tallyOn (cell c k) (launchCredit (Pipeline.owing O₀) 0 (cell c k)) = (tallyAt (cell c k) () n : CellTallies nD τ sig Unit) := by
  unfold tallyAt; refine congrArg _ (Finsupp.ext fun u => ?_); cases u
  rw [Pipeline.launchCredit_owing, Finsupp.single_eq_same, h]

/-- The semaphores a device is launched with credit on. -/
def credSem : Unit ⊕ Msg ↪ SemLoc sig where
  toFun
    | .inl _ => csem (.inl ())
    | .inr i => csem (.inr (.inr i))
  inj' := by
    rintro (_ | i) (_ | j) h
    · rfl
    · cases csem_inj h
    · cases csem_inj h
    · exact congrArg Sum.inr (Sum.inr.inj (Sum.inr.inj (csem_inj h)))

theorem creds (c : Dev nD) : (Pipeline.launchCred O₀ c : sProp 𝕄) ⊢ credit c := by
  have h : (bigSep (Finset.univ.map credSem) fun sm : SemLoc sig =>
      (cred (tallyOn ((c : Thread nD τ), sm) (launchCredit (Pipeline.owing O₀) 0 ((c : Thread nD τ), sm))) : sProp 𝕄)) = credit c := by
    rw [bigSep_map, bigSep_univ_sum, bigSep_unit]
    unfold credit
    have h1 := launch_at c (.inl ()) 4 (owed_bar c)
    have h2 : (bigSep Finset.univ fun i : Msg => (cred (tallyOn ((c : Thread nD τ), credSem (.inr i)) (launchCredit (Pipeline.owing O₀) 0 ((c : Thread nD τ), credSem (.inr i)))) : sProp 𝕄))
        = bigSep Finset.univ fun i => cred (tallyAt (recvCell c i) () (cnt i)) :=
      bigSep_congr fun i _ => congrArg cred (launch_at c (.inr (.inr i)) (cnt i) (owed_recv c i))
    rw [h2]
    exact congrArg (fun x => iprop(cred x ∗ bigSep Finset.univ fun i => cred (tallyAt (recvCell c i) () (cnt i)))) h1
  rw [← h]
  unfold Pipeline.launchCred
  exact bigSep_subset (Finset.subset_univ _)

end Cert.KernelIdeal.Gen

end
-- ==== Proof.KernelIdeal.Launch.lean ====
module

public import proofs.«01_k».proof.Proof.KernelIdeal.Deal
public import Idealize.ShloMosaic.Lib.Pipeline.CollectiveSegs
public import Idealize.ShloMosaic.Lib.Pipeline.ValueKit.Geometry

/-! The launch: the run of the whole program from any memory, to the arrays' final contents and every
semaphore at zero. -/

@[expose] public section

noncomputable section

namespace Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xOf m) (wOf m) c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The launch's scoped buffers are the working buffers. -/
theorem scratch_eq (c : Dev nD) :
    (Pipeline.scopedRest (Ix := Unit) (Name := ℕ) (U := UU) (Lvl := ℕ) (Val := Elt F) spec0 c : sProp 𝕄)
      = iprop(buf (Memref.whole cc0_scratch0) c ∗ buf (Memref.whole cc0_scratch1) c ∗ buf (Memref.whole cc0_scratch2) c ∗ buf (Memref.whole cc0_scratch3) c
        ∗ buf (Memref.whole cc0_scratch4) c ∗ buf (Memref.whole cc0_scratch5) c ∗ buf (Memref.whole cc0_scratch6) c ∗ buf (Memref.whole cc0_scratch7) c
        ∗ buf (Memref.whole cc0_scratch8) c ∗ buf (Memref.whole cc0_scratch9) c ∗ buf (Memref.whole cc0_scratch10) c) := by
  rw [scopedRest0_eq]
  simp only [buf_whole]

theorem scratch_in (c : Dev nD) :
    (Pipeline.scopedRest (Ix := Unit) (Name := ℕ) (U := UU) (Lvl := ℕ) (Val := Elt F) spec0 c : sProp 𝕄) ⊢ scratch c := by
  rw [scratch_eq]
  unfold scratch
  rw [st_all, rv_all]
  iintro ⟨H0, H1, H2, H3, H4, H5, H6, H7, H8, H9, H10⟩
  isplitl [H0]; · iexact H0
  isplitl [H5]; · iexact H5
  isplitl [H6]; · iexact H6
  isplitl [H1 H3 H7 H9]
  · isplitl [H1]; · iexact H1
    isplitl [H3]; · iexact H3
    isplitl [H7]; · iexact H7
    iexact H9
  isplitl [H2]; · iexact H2
  isplitl [H4]; · iexact H4
  isplitl [H8]; · iexact H8
  iexact H10
theorem scratch_out (c : Dev nD) :
    (scratch c : sProp 𝕄) ⊢ Pipeline.scopedRest (Ix := Unit) (Name := ℕ) (U := UU) (Lvl := ℕ) (Val := Elt F) spec0 c := by
  rw [scratch_eq]
  unfold scratch
  rw [st_all, rv_all]
  iintro ⟨H0, H5, H6, ⟨H1, H3, H7, H9⟩, H2, H4, H8, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_in c); iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, ownSems0_eq, unscopedSems0_eq]
  unfold Φ₁
  iintro ⟨Hr, HzS, HzV, HzB⟩
  isplitl [HzB]; · iexact HzB
  isplitl [HzS HzV]
  · isplitl [HzS]; · iexact HzS
    iexact HzV
  iapply (scratch_out c); iexact Hr

theorem stage_other (w : Fin cfg0.W) (s) (k : Key) : csem k ≠ .dma ((cfg0.win w).sem s) := by
  rcases k with _ | k
  · intro h; cases h
  · exact ownSemFacts.disj k w s

theorem waits (c : Dev nD) : (levAts L lv : sProp 𝕄) ⊢ Pipeline.cellsWaits cfgs (dats m) () 0 c :=
  Pipeline.cellsWaits_intro cfgs (dats m) () 0 c fun w s t =>
    mayWait_stage c _ (stage_other w s) _ (by
      rcases t with ⟨_ | _, ht⟩
      · exact Or.inl rfl
      · exact Or.inr rfl)

/-- An array's final contents. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- From any memory with zero counters, the run ends, the arrays at their final contents and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xOf m) (wOf m)) (G' := G' (xOf m) (wOf m)) (u₀ := u₀)
    (hu₀ := by
      unfold u₀
      iintro Hu
      ihave H := (ownU_pair _ _) $$ Hu
      icases H with ⟨HP, HX⟩
      imod (fund_all (xOf m) (wOf m)) $$ HX with HG
      imodintro
      isplitl [HP] <;> iassumption)
    (hglob := glob (xOf m) (wOf m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two argument arrays hold after the run what they held. -/
theorem finalA_x (c : Dev nD) : finalA m c (0 : Fin 3) = m ((c : Thread nD τ).loc main_arg0) := (dats m 0 c).arrAt_in (0 : Fin 3) rfl _
theorem finalA_w (c : Dev nD) : finalA m c (1 : Fin 3) = m ((c : Thread nD τ).loc main_arg1) := (dats m 0 c).arrAt_in (1 : Fin 3) rfl _

/-- The frame, and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (0 : Fin 3)).trans (finalA_x m c), (h.1 c (1 : Fin 3)).trans (finalA_w m c)⟩, h.2⟩) (run_main m ρ)

/-- The result array is the block the body leaves. -/
theorem finalA_o (c : Dev nD) : finalA m c (2 : Fin 3) = oB (xOf m) (wOf m) c :=
  (dats m 0 c).arrAt_eq_of_after_last (2 : Fin 3) t0_0 (by decide +kernel) _ (fun j => by blk_simp; rfl)

/-- The blocks a device starts with are its argument arrays. -/
theorem xOf_eq (c : Dev nD) : xOf m c = m ((c : Thread nD τ).loc main_arg0) := by
  unfold xOf; funext j
  show m ((c : Thread nD τ).loc main_arg0) ((win0_0.blk (0 : Fin 1)).view.emb j) = _
  congr 1
  have e : win0_0.index (0 : Fin 1) = ![0, 0] := by decide +kernel
  blk_ext [e]
theorem wOf_eq (c : Dev nD) : wOf m c = m ((c : Thread nD τ).loc main_arg1) := by
  unfold wOf; funext j
  show m ((c : Thread nD τ).loc main_arg1) ((win0_1.blk (0 : Fin 1)).view.emb j) = _
  congr 1
  have e : win0_1.index (0 : Fin 1) = ![0, 0] := by decide +kernel
  blk_ext [e]

/-- The result, the arguments, the counters. -/
theorem run_value : θ_run defs (onTc (τ := τ) (main (F := F))) ⟨m, fun _ => 0, ρ⟩ (fun r => ∀ c : Dev nD,
      r.2.mem ((c.tc : Thread nD τ).loc main_v1) = oB (xOf m) (wOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c (2 : Fin 3)).trans (finalA_o m c), (h.1 c (0 : Fin 3)).trans (finalA_x m c), (h.1 c (1 : Fin 3)).trans (finalA_w m c)⟩) (run_main m ρ)

end Cert.KernelIdeal.Gen

end
-- ==== Proof.KernelIdeal.Sums.lean ====
module

public import proofs.«01_k».proof.Proof.KernelIdeal.Contents
public import Idealize.ShloMosaic.Lib.MatmulPlain
public import Idealize.ShloMosaic.Lib.Pipeline.Value
public import Idealize.ShloMosaic.PureOps.Ideal.Laws
public import Mathlib.Logic.Equiv.Fin.Basic

/-! What the two phases' messages and sums are over the extended reals: every message a sum of the
partial products, or of the first phase's sums, of the devices it has come by. -/

@[expose] public section

noncomputable section

namespace Cert.KernelIdeal.Gen

open Idealize.ShloMosaic Idealize.ShloMosaic.TcCoe Idealize.SL.Sem
open Idealize.ShloMosaic.ValueIdx

/-! ## Arrays of two axes, read at two numbers -/

/-- An array's element in row `a`, column `b`. -/
def el {n0 n1 : ℕ} (v : (⟨2, ![n0, n1]⟩ : Shape).Idx → EReal) (a b : ℕ) : EReal :=
  if h : a < n0 ∧ b < n1 then v (ix2 ⟨a, h.1⟩ ⟨b, h.2⟩) else 0

theorem el_lt {n0 n1 : ℕ} (v : (⟨2, ![n0, n1]⟩ : Shape).Idx → EReal) {a b : ℕ} (ha : a < n0) (hb : b < n1) :
    el v a b = v (ix2 ⟨a, ha⟩ ⟨b, hb⟩) := dif_pos ⟨ha, hb⟩
theorem el_ix2 {n0 n1 : ℕ} (v : (⟨2, ![n0, n1]⟩ : Shape).Idx → EReal) (a : Fin n0) (b : Fin n1) :
    el v a.val b.val = v (ix2 a b) := el_lt v a.isLt b.isLt
theorem el_idx {n0 n1 : ℕ} (v : (⟨2, ![n0, n1]⟩ : Shape).Idx → EReal) (i : (⟨2, ![n0, n1]⟩ : Shape).Idx) :
    v i = el v (i 0).val (i 1).val := by
  rw [eq_ix2 i]; exact (el_ix2 v _ _).symm

/-- A rectangle's element is the array's, so many rows and columns further on. -/
theorem el_part {n0 n1 m0 m1 : ℕ} (off : Fin 2 → ℕ) (h : ∀ a, off a + (![m0, m1] : Fin 2 → ℕ) a ≤ (⟨2, ![n0, n1]⟩ : Shape).size a)
    (G : (⟨2, ![n0, n1]⟩ : Shape).Idx → EReal) {a b : ℕ} (ha : a < m0) (hb : b < m1) :
    el (n0 := m0) (n1 := m1) (part (Rect.unit (s := ⟨2, ![n0, n1]⟩) off ![m0, m1] h) G) a b = el G (off 0 + a) (off 1 + b) := by
  have h0 : off 0 + m0 ≤ n0 := h 0
  have h1 : off 1 + m1 ≤ n1 := h 1
  rw [el_lt _ ha hb, el_lt G (a := off 0 + a) (b := off 1 + b) (by omega) (by omega)]
  show G _ = G _
  congr 1
  funext x; apply Fin.ext
  match x with
  | ⟨0, _⟩ => show off 0 + 1 * a = off 0 + a; omega
  | ⟨1, _⟩ => show off 1 + 1 * b = off 1 + b; omega

/-! ## What the payloads are -/

theorem pay1_el (x : Vec Ideal S512x64 .f32) (w : Vec Ideal S64x2048 .f32) {a b : ℕ} (ha : a < 512) (hb : b < 2048) :
    el (n0 := 512) (n1 := 2048) (k0_pay1 x w) a b = ∑ k : Fin 64, el (n0 := 512) (n1 := 64) x a k.val * el (n0 := 64) (n1 := 2048) w k.val b := by
  rw [el_lt _ ha hb]
  unfold k0_pay1
  simp only [shapeCast_self]
  refine (Ideal.matmul_plain_apply (M := 512) (K := 64) (N := 2048) none x w _ ⟨a, ha⟩ ⟨b, hb⟩).trans ?_
  rw [show (constant S512x2048 .f32 0x00000000#32 : FVec Ideal S512x2048 .f32) (ix2 ⟨a, ha⟩ ⟨b, hb⟩) = Ideal.ofBits .f32 0x00000000#32 from rfl,
    Ideal.ofBits_zero_f32, zero_add]
  refine Finset.sum_congr rfl fun k _ => ?_
  rw [el_lt (n0 := 512) (n1 := 64) x ha k.isLt, el_lt (n0 := 64) (n1 := 2048) w k.isLt hb]

/-- A message of the first phase, its leading axis of one dropped; -/
def flat1 (v : Vec Ideal S1x256x1024 .bf16) : (⟨2, ![256, 1024]⟩ : Shape).Idx → EReal := shapeCast S256x1024 v shapeCasts_S1x256x1024_S256x1024
/-- of the second. -/
def flat2 (v : Vec Ideal S1x32x1024 .bf16) : (⟨2, ![32, 1024]⟩ : Shape).Idx → EReal := shapeCast S32x1024 v shapeCasts_S1x32x1024_S32x1024

theorem flat1_pay2 (v : Vec Ideal S256x1024 .f32) : flat1 (k0_pay2 v) = v := by
  unfold flat1 k0_pay2
  exact shapeCast_shapeCast _ _ _
theorem flat1_pay10 (x : Vec Ideal S1x256x1024 .bf16) (v : Vec Ideal S256x1024 .f32) (i) : flat1 (k0_pay10 x v) i = (flat1 x i + v i : EReal) := by
  unfold flat1 k0_pay10
  exact congrFun (shapeCast_shapeCast _ _ _) i
theorem pay19_at (x : Vec Ideal S1x256x1024 .bf16) (v : Vec Ideal S256x1024 .f32) (i) : k0_pay19 x v i = (flat1 x i + v i : EReal) := by
  unfold flat1 k0_pay19
  exact congrFun (shapeCast_self _ _) i
theorem flat2_pay23 (v : Vec Ideal S32x1024 .f32) : flat2 (k0_pay23 v) = v := by
  unfold flat2 k0_pay23
  exact shapeCast_shapeCast _ _ _
theorem flat2_pay27 (x : Vec Ideal S1x32x1024 .bf16) (v : Vec Ideal S32x1024 .f32) (i) : flat2 (k0_pay27 x v) i = (flat2 x i + v i : EReal) := by
  unfold flat2 k0_pay27
  exact congrFun (shapeCast_shapeCast _ _ _) i

/-! ## Sums along a ring -/

/-- A step adds its device's term to what the device before it sent. -/
theorem ring_sum (f : Dev nD → Dev nD) (g : Dev nD → EReal) (n : ℕ) (c : Dev nD) :
    (∑ t ∈ Finset.range n, g (f^[t] (f c))) + g c = ∑ t ∈ Finset.range (n + 1), g (f^[t] c) := by
  rw [Finset.sum_range_succ']
  rfl

section
variable (X : Dev nD → Vec Ideal S2048x64 .f32) (W : Dev nD → Vec Ideal S64x2048 .f32)

/-- The partial product's element on a device. -/
def pp (e : Dev nD) (r n : ℕ) : EReal := ∑ k : Fin 64, el (n0 := 2048) (n1 := 64) (X e) r k.val * el (n0 := 64) (n1 := 2048) (W e) k.val n

theorem pB_el (c : Dev nD) {r n : ℕ} (hr : r < 2048) (hn : n < 2048) : el (n0 := 2048) (n1 := 2048) (pB X W c) r n = pp X W c r n := by
  have hb : r / 512 < 4 := by omega
  have ha : r % 512 < 512 := by omega
  have h := el_part (n0 := 2048) (n1 := 2048) (m0 := 512) (m1 := 2048) ![512 * (r / 512), 0] (inbR ⟨r / 512, hb⟩) (pB X W c) ha hn
  have e0 : (![512 * (r / 512), 0] : Fin 2 → ℕ) 0 + r % 512 = r := by show 512 * (r / 512) + r % 512 = r; omega
  have e1 : (![512 * (r / 512), 0] : Fin 2 → ℕ) 1 + n = n := by show 0 + n = n; omega
  rw [e0, e1] at h
  rw [← h]
  have hp : part (rB ⟨r / 512, hb⟩) (pB X W c) = k0_pay1 (part (xB ⟨r / 512, hb⟩) (X c)) (part rw_ (W c)) := funext fun j => pB_emb X W c ⟨r / 512, hb⟩ j
  refine (congrArg (fun v : (⟨2, ![512, 2048]⟩ : Shape).Idx → EReal => el v (r % 512) n) hp).trans ?_
  refine (pay1_el _ _ ha hn).trans ?_
  unfold pp
  refine Finset.sum_congr rfl fun k _ => ?_
  have hx := el_part (n0 := 2048) (n1 := 64) (m0 := 512) (m1 := 64) ![512 * (r / 512), 0] (inbX ⟨r / 512, hb⟩) (X c) ha k.isLt
  have hw := el_part (n0 := 64) (n1 := 2048) (m0 := 64) (m1 := 2048) ![0, 0] inb_S64x2048_S64x2048_0_0 (W c) k.isLt hn
  have e2 : (![512 * (r / 512), 0] : Fin 2 → ℕ) 1 + k.val = k.val := by show 0 + k.val = k.val; omega
  have e3 : (![0, 0] : Fin 2 → ℕ) 0 + k.val = k.val := by show 0 + k.val = k.val; omega
  have e4 : (![0, 0] : Fin 2 → ℕ) 1 + n = n := by show 0 + n = n; omega
  rw [e0, e2] at hx
  rw [e3, e4] at hw
  exact congrArg₂ (· * ·) hx hw

/-! ## The first phase -/

/-- The first row of what the first phase's hop `s` of a direction adds up on device `c`. -/
def base1 (d : Bool) (s : ℕ) (c : Dev nD) : ℕ := 512 * (((pv (false, d))^[s] c).val / 8 + (if d then 1 else 3)) % 2048

theorem oq0_eq : ∀ (c : Dev nD) (d : Bool) (u : Fin 2), oq0 c d u = ![base1 d 0 c + 256 * u.val, 1024 * d.toNat] := by decide +kernel
theorem oq1_eq : ∀ (c : Dev nD) (s : Fin 2) (d : Bool) (u : Fin 2), oq1 c s d u = ![base1 d (s.val + 1) c + 256 * u.val, 1024 * d.toNat] := by decide +kernel
theorem oqa_eq : ∀ (c : Dev nD) (d : Bool) (u : Fin 2), oqa c d u = ![512 * (c.val / 8) + 256 * u.val, 1024 * d.toNat] := by decide +kernel
theorem base1_last : ∀ (c : Dev nD) (d : Bool), base1 d 2 (pv (false, d) c) = 512 * (c.val / 8) := by decide +kernel
theorem base1_lt (d : Bool) (s : ℕ) (c : Dev nD) : base1 d s c + 512 ≤ 2048 := by unfold base1; split <;> omega

theorem part_pB (c : Dev nD) (off : Fin 2 → ℕ) (h : ∀ a, off a + S256x1024.size a ≤ S2048x2048.size a) (o0 o1 : ℕ) (ho : off = ![o0, o1])
    {a b : ℕ} (ha : a < 256) (hb : b < 1024) :
    el (n0 := 256) (n1 := 1024) (part (r256 off h) (pB X W c)) a b = pp X W c (o0 + a) (o1 + b) := by
  subst ho
  have h0 : o0 + 256 ≤ 2048 := h 0
  have h1 : o1 + 1024 ≤ 2048 := h 1
  refine (el_part (n0 := 2048) (n1 := 2048) (m0 := 256) (m1 := 1024) _ h (pB X W c) ha hb).trans ?_
  exact pB_el X W c (r := o0 + a) (n := o1 + b) (by omega) (by omega)

theorem msg1_el (d : Bool) (u : Fin 2) {a b : ℕ} (ha : a < 256) (hb : b < 1024) : ∀ (s : ℕ), s ≤ 2 → ∀ c : Dev nD,
    el (flat1 (msg1 X W d u s c)) a b
      = ∑ t ∈ Finset.range (s + 1), pp X W ((pv (false, d))^[t] c) (base1 d s c + 256 * u.val + a) (1024 * d.toNat + b)
  | 0, _, c => by
      rw [Finset.sum_range_one]
      show el (flat1 (k0_pay2 (part (q0 c d u) (pB X W c)))) a b = _
      rw [flat1_pay2]
      exact part_pB X W c _ _ _ _ (oq0_eq c d u) ha hb
  | s + 1, hs, c => by
      have ih := msg1_el d u ha hb s (by omega) (pv (false, d) c)
      have hf : Fin.ofNat 2 s = ⟨s, by omega⟩ := Fin.ext (Nat.mod_eq_of_lt (by omega))
      rw [show msg1 X W d u (s + 1) c = k0_pay10 (msg1 X W d u s (pv (false, d) c)) (part (q1 c (Fin.ofNat 2 s) d u) (pB X W c)) from rfl, hf]
      rw [el_lt _ ha hb, flat1_pay10, ← el_lt (flat1 (msg1 X W d u s (pv (false, d) c))) ha hb, ih]
      have h2 := part_pB X W c _ (oq1_inb c ⟨s, by omega⟩ d u) _ _ (oq1_eq c ⟨s, by omega⟩ d u) ha hb
      rw [el_lt _ ha hb] at h2
      refine (congrArg _ h2).trans ?_
      exact ring_sum (pv (false, d)) (fun e => pp X W e (base1 d (s + 1) c + 256 * u.val + a) (1024 * d.toNat + b)) (s + 1) c

/-- The first phase's sum is over the four devices of one column of the mesh. -/
theorem aB_el (d : Bool) (c : Dev nD) {r b : ℕ} (hr : r < 512) (hb : b < 1024) :
    el (n0 := 512) (n1 := 1024) (aB X W d c) r b
      = ∑ t ∈ Finset.range 4, pp X W ((pv (false, d))^[t] c) (512 * (c.val / 8) + r) (1024 * d.toNat + b) := by
  have hu : r / 256 < 2 := by omega
  have ha : r % 256 < 256 := by omega
  have h := el_part (n0 := 512) (n1 := 1024) (m0 := 256) (m1 := 1024) ![256 * (r / 256), 0] (inba ⟨r / 256, hu⟩) (aB X W d c) ha hb
  have e0 : (![256 * (r / 256), 0] : Fin 2 → ℕ) 0 + r % 256 = r := by show 256 * (r / 256) + r % 256 = r; omega
  have e1 : (![256 * (r / 256), 0] : Fin 2 → ℕ) 1 + b = b := by show 0 + b = b; omega
  rw [e0, e1] at h
  rw [← h]
  have hp : part (ra256 ⟨r / 256, hu⟩) (aB X W d c) = k0_pay19 (msg1 X W d ⟨r / 256, hu⟩ 2 (pv (false, d) c)) (part (qa c d ⟨r / 256, hu⟩) (pB X W c)) :=
    funext fun j => aB_emb X W d c ⟨r / 256, hu⟩ j
  refine (congrArg (fun v : (⟨2, ![256, 1024]⟩ : Shape).Idx → EReal => el v (r % 256) b) hp).trans ?_
  refine (el_lt _ ha hb).trans ?_
  rw [pay19_at, ← el_lt (flat1 _) ha hb, msg1_el X W d ⟨r / 256, hu⟩ ha hb 2 (le_refl _), base1_last]
  have h2 := part_pB X W c _ (oqa_inb c d ⟨r / 256, hu⟩) _ _ (oqa_eq c d ⟨r / 256, hu⟩) ha hb
  rw [el_lt _ ha hb] at h2
  refine (congrArg _ h2).trans ?_
  have e2 : 512 * (c.val / 8) + 256 * (r / 256) + r % 256 = 512 * (c.val / 8) + r := by omega
  show _ + pp X W c (512 * (c.val / 8) + 256 * (r / 256) + r % 256) _ = _
  simp only [e2]
  exact ring_sum (pv (false, d)) (fun e => pp X W e (512 * (c.val / 8) + r) (1024 * d.toNat + b)) 3 c

/-! ## The second phase -/

/-- The first row of what the second phase's hop `s` of a direction adds up on device `c`. -/
def base2 (d : Bool) (s : ℕ) (c : Dev nD) : ℕ := 64 * (((pv (true, d))^[s] c).val % 8 + (if d then 1 else 7)) % 512

theorem op0_eq : ∀ (c : Dev nD) (d : Bool) (u : Fin 2), op0 c d u = ![base2 d 0 c + 32 * u.val, 0] := by decide +kernel
theorem op1_eq : ∀ (c : Dev nD) (s : Fin 6) (d : Bool) (u : Fin 2), op1 c s d u = ![base2 d (s.val + 1) c + 32 * u.val, 0] := by decide +kernel
theorem opo_eq : ∀ (c : Dev nD) (u : Fin 2), opo c u = ![64 * (c.val % 8) + 32 * u.val, 0] := by decide +kernel
theorem base2_last : ∀ (c : Dev nD) (d : Bool), base2 d 6 (pv (true, d) c) = 64 * (c.val % 8) := by decide +kernel

theorem part_aB (d : Bool) (c : Dev nD) (off : Fin 2 → ℕ) (h : ∀ a, off a + S32x1024.size a ≤ S512x1024.size a) (o0 : ℕ) (ho : off = ![o0, 0])
    {a b : ℕ} (ha : a < 32) (hb : b < 1024) :
    el (n0 := 32) (n1 := 1024) (part (r32 off h) (aB X W d c)) a b = el (n0 := 512) (n1 := 1024) (aB X W d c) (o0 + a) b := by
  subst ho
  refine (el_part (n0 := 512) (n1 := 1024) (m0 := 32) (m1 := 1024) _ h (aB X W d c) ha hb).trans ?_
  show el (n0 := 512) (n1 := 1024) (aB X W d c) (o0 + a) (0 + b) = _
  rw [zero_add]

theorem msg2_el (d : Bool) (u : Fin 2) {a b : ℕ} (ha : a < 32) (hb : b < 1024) : ∀ (s : ℕ), s ≤ 6 → ∀ c : Dev nD,
    el (flat2 (msg2 X W d u s c)) a b
      = ∑ t ∈ Finset.range (s + 1), el (n0 := 512) (n1 := 1024) (aB X W d ((pv (true, d))^[t] c)) (base2 d s c + 32 * u.val + a) b
  | 0, _, c => by
      rw [Finset.sum_range_one]
      show el (flat2 (k0_pay23 (part (p0 c d u) (aB X W d c)))) a b = _
      rw [flat2_pay23]
      exact part_aB X W d c _ _ _ (op0_eq c d u) ha hb
  | s + 1, hs, c => by
      have ih := msg2_el d u ha hb s (by omega) (pv (true, d) c)
      have hf : Fin.ofNat 6 s = ⟨s, by omega⟩ := Fin.ext (Nat.mod_eq_of_lt (by omega))
      rw [show msg2 X W d u (s + 1) c = k0_pay27 (msg2 X W d u s (pv (true, d) c)) (part (p1 c (Fin.ofNat 6 s) d u) (aB X W d c)) from rfl, hf]
      rw [el_lt _ ha hb, flat2_pay27, ← el_lt (flat2 (msg2 X W d u s (pv (true, d) c))) ha hb, ih]
      have h2 := part_aB X W d c _ (op1_inb c ⟨s, by omega⟩ d u) _ (op1_eq c ⟨s, by omega⟩ d u) ha hb
      rw [el_lt _ ha hb] at h2
      refine (congrArg _ h2).trans ?_
      exact ring_sum (pv (true, d)) (fun e => el (n0 := 512) (n1 := 1024) (aB X W d e) (base2 d (s + 1) c + 32 * u.val + a) b) (s + 1) c

/-- A step of the second phase stays in its row of the mesh. -/
theorem pv2_row : ∀ (d : Bool) (t : Fin 8) (c : Dev nD), ((pv (true, d))^[t.val] c).val / 8 = c.val / 8 := by decide +kernel

/-- The devices a sum comes by in the two phases are all of them, each once. -/
theorem all_devices : ∀ (d : Bool) (c : Dev nD), Function.Bijective fun p : Fin 8 × Fin 4 => (pv (false, d))^[p.2.val] ((pv (true, d))^[p.1.val] c) := by
  decide +kernel

theorem sum_devices (d : Bool) (c : Dev nD) (g : Dev nD → EReal) :
    (∑ t ∈ Finset.range 8, ∑ t' ∈ Finset.range 4, g ((pv (false, d))^[t'] ((pv (true, d))^[t] c))) = ∑ e, g e := by
  rw [← Equiv.sum_comp (Equiv.ofBijective _ (all_devices d c)) g, Fintype.sum_prod_type,
    Finset.sum_range (f := fun t => ∑ t' ∈ Finset.range 4, g ((pv (false, d))^[t'] ((pv (true, d))^[t] c)))]
  exact Finset.sum_congr rfl fun t _ => Finset.sum_range (n := 4) fun t' => g ((pv (false, d))^[t'] ((pv (true, d))^[t.val] c))

/-- What a device's last step adds up: the partial products of all of the devices, at the device's own rows. -/
theorem last_el (d : Bool) (u : Fin 2) (c : Dev nD) {a b : ℕ} (ha : a < 32) (hb : b < 1024) :
    el (flat2 (msg2 X W d u 6 (pv (true, d) c))) a b + el (n0 := 32) (n1 := 1024) (part (po c u) (aB X W d c)) a b
      = ∑ e, pp X W e (64 * c.val + (32 * u.val + a)) (1024 * d.toNat + b) := by
  rw [msg2_el X W d u ha hb 6 (le_refl _), base2_last]
  rw [part_aB X W d c _ (opo_inb c u) _ (opo_eq c u) ha hb]
  refine (ring_sum (pv (true, d)) (fun e => el (n0 := 512) (n1 := 1024) (aB X W d e) (64 * (c.val % 8) + 32 * u.val + a) b) 7 c).trans ?_
  refine Eq.trans ?_ (sum_devices d c fun e => pp X W e (64 * c.val + (32 * u.val + a)) (1024 * d.toNat + b))
  refine Finset.sum_congr rfl fun t ht => ?_
  have hr : 64 * (c.val % 8) + 32 * u.val + a < 512 := by have := u.isLt; omega
  rw [aB_el X W d _ hr hb, pv2_row d ⟨t, Finset.mem_range.mp ht⟩ c]
  rw [show 512 * (c.val / 8) + (64 * (c.val % 8) + 32 * u.val + a) = 64 * c.val + (32 * u.val + a) from by omega]

end

end Cert.KernelIdeal.Gen

end
-- ==== Proof.KernelIdeal.Product.lean ====
module

public import proofs.«01_k».proof.Proof.KernelIdeal.Sums
public import proofs.«01_k».proof.Proof.Gen.ReferenceIdeal
public import Idealize.ShloMosaic.Lib.StackMember
public import Idealize.ShloMosaic.Lib.Layout

/-! The kernel's result against the reference's: the sum over the devices of the partial products is the
whole product, and the elementwise function applied to it is the reference's. -/

@[expose] public section

noncomputable section

namespace Cert.KernelIdeal.Gen

open Idealize.ShloMosaic Idealize.ShloMosaic.TcCoe Idealize.SL.Sem
open Idealize.ShloMosaic.ValueIdx

/-! ## The elementwise function -/

/-- The function as the kernel computes it. -/
def act (y : EReal) : EReal :=
  (Ideal.ofBits .f32 0x3F000000#32 * y) * (Ideal.ofBits .f32 0x3F800000#32
    + Ideal.tanh (Ideal.ofBits .f32 0x3F4C422A#32 * (y + ((Ideal.ofBits .f32 0x3D372713#32 * y) * y) * y)))

theorem pay57_at (x : Vec Ideal S1x32x1024 .bf16) (v : Vec Ideal S32x1024 .f32) (i) : k0_pay57 x v i = act (flat2 x i + v i : EReal) := rfl

/-- The function as the reference computes it, of a whole array. -/
def refAct (D : FVec Ideal Cert.ReferenceIdeal.S2048x2048 .f32) : FVec Ideal Cert.ReferenceIdeal.S2048x2048 .f32 :=
  mulf (mulf (broadcastInDim Cert.ReferenceIdeal.S2048x2048 ![] Cert.ReferenceIdeal.Gen.bcast_S_S2048x2048 (constant Cert.ReferenceIdeal.S_ .f32 0x3F000000#32)) D)
    (addf (broadcastInDim Cert.ReferenceIdeal.S2048x2048 ![] Cert.ReferenceIdeal.Gen.bcast_S_S2048x2048 (constant Cert.ReferenceIdeal.S_ .f32 0x3F800000#32))
      (Host.tanh (mulf (broadcastInDim Cert.ReferenceIdeal.S2048x2048 ![] Cert.ReferenceIdeal.Gen.bcast_S_S2048x2048 (constant Cert.ReferenceIdeal.S_ .f32 0x3F4C422A#32))
        (addf D (mulf (broadcastInDim Cert.ReferenceIdeal.S2048x2048 ![] Cert.ReferenceIdeal.Gen.bcast_S_S2048x2048 (constant Cert.ReferenceIdeal.S_ .f32 0x3D372713#32))
          (mulf (mulf D D) D))))))

theorem refAct_at (D : FVec Ideal Cert.ReferenceIdeal.S2048x2048 .f32) (i) : refAct D i = act (D i) := by
  unfold act
  rw [mul_assoc (Ideal.ofBits .f32 0x3D372713#32 * D i) (D i) (D i), mul_assoc (Ideal.ofBits .f32 0x3D372713#32) (D i) (D i * D i), ← mul_assoc (D i) (D i) (D i)]
  rfl

/-! ## The product -/

/-- The whole product's element is the devices' partial products' sum. -/
theorem sum_pp (A B : (⟨2, ![2048, 2048]⟩ : Shape).Idx → EReal)
    (X : Dev nD → Vec Ideal S2048x64 .f32) (W : Dev nD → Vec Ideal S64x2048 .f32)
    (hX : ∀ c : Dev nD, X c = Layout.block ⟨2, ![2048, 64]⟩ ⟨2, ![2048, 2048]⟩ 1 32 c A)
    (hW : ∀ c : Dev nD, W c = Layout.block ⟨2, ![64, 2048]⟩ ⟨2, ![2048, 2048]⟩ 0 32 c B) (r n : Fin 2048) :
    (∑ e, pp X W e r.val n.val) = ∑ k : Fin 2048, A (ix2 r k) * B (ix2 k n) := by
  rw [← Equiv.sum_comp (finProdFinEquiv (m := 32) (n := 64)) (fun k : Fin 2048 => A (ix2 r k) * B (ix2 k n)), Fintype.sum_prod_type]
  refine Finset.sum_congr rfl fun e _ => Finset.sum_congr rfl fun k _ => ?_
  rw [el_lt (n0 := 2048) (n1 := 64) (X e) r.isLt k.isLt, el_lt (n0 := 64) (n1 := 2048) (W e) k.isLt n.isLt, hX e, hW e]
  refine congrArg₂ (· * ·) (congrArg A ?_) (congrArg B ?_)
  · funext x; apply Fin.ext
    match x with
    | ⟨0, _⟩ => rfl
    | ⟨1, _⟩ => show e.val * 64 + k.val = k.val + 64 * e.val; omega
  · funext x; apply Fin.ext
    match x with
    | ⟨0, _⟩ => show e.val * 64 + k.val = k.val + 64 * e.val; omega
    | ⟨1, _⟩ => rfl

/-- The reference's product. -/
def refDot (A B : FVec Ideal Cert.ReferenceIdeal.S2048x2048 .f32) : FVec Ideal Cert.ReferenceIdeal.S2048x2048 .f32 :=
  Host.dotGeneral Cert.ReferenceIdeal.dot_S2048x2048_S2048x2048_S2048x2048_1_0_0_1_n_n none A B

theorem refDot_at (A B : FVec Ideal Cert.ReferenceIdeal.S2048x2048 .f32) (r n : Fin 2048) :
    refDot A B (ix2 r n) = ∑ k : Fin 2048, (A (ix2 r k) * B (ix2 k n) : EReal) :=
  StackMember.dotGeneral_plain_apply (m := 2048) (k := 2048) (n := 2048) none A B r n

/-- Every device's result is its block of rows of the reference's. -/
theorem oB_block (A B : FVec Ideal Cert.ReferenceIdeal.S2048x2048 .f32)
    (X : Dev nD → Vec Ideal S2048x64 .f32) (W : Dev nD → Vec Ideal S64x2048 .f32)
    (hX : ∀ c : Dev nD, X c = Layout.block ⟨2, ![2048, 64]⟩ ⟨2, ![2048, 2048]⟩ 1 32 c A)
    (hW : ∀ c : Dev nD, W c = Layout.block ⟨2, ![64, 2048]⟩ ⟨2, ![2048, 2048]⟩ 0 32 c B) (c : Dev nD) :
    oB X W c = Layout.block ⟨2, ![64, 2048]⟩ ⟨2, ![2048, 2048]⟩ 0 32 c (refAct (refDot A B)) := by
  have key : ∀ (r : Fin 64) (n : Fin 2048), oB X W c (ix2 r n)
      = refAct (refDot A B) (ix2 ⟨64 * c.val + r.val, by have := c.isLt; have := r.isLt; show _ < 2048; simp only [nD] at *; omega⟩ n) := by
    intro r n
    have hc : c.val < 32 := c.isLt
    have hr := r.isLt
    have hn := n.isLt
    obtain ⟨d, hd⟩ : ∃ d : Bool, 1024 * d.toNat + n.val % 1024 = n.val := by
      by_cases h : n.val < 1024
      · exact ⟨false, by show 1024 * 0 + _ = _; omega⟩
      · exact ⟨true, by show 1024 * 1 + _ = _; omega⟩
    have ha : r.val % 32 < 32 := by omega
    have hb : n.val % 1024 < 1024 := by omega
    have hu : r.val / 32 < 2 := by omega
    have h32 : 32 * (r.val / 32) + r.val % 32 = r.val := by omega
    have hi : (ix2 r n : S64x2048.Idx) = (ro d ⟨r.val / 32, hu⟩).emb (ix2 (n0 := 32) (n1 := 1024) ⟨r.val % 32, ha⟩ ⟨n.val % 1024, hb⟩) := by
      funext x; apply Fin.ext
      match x with
      | ⟨0, _⟩ => show r.val = 32 * (r.val / 32) + 1 * (r.val % 32); omega
      | ⟨1, _⟩ => show n.val = 1024 * d.toNat + 1 * (n.val % 1024); omega
    rw [hi, oB_emb, pay57_at, refAct_at, refDot_at, ← sum_pp A B X W hX hW]
    congr 1
    have h := last_el X W d ⟨r.val / 32, hu⟩ c ha hb
    rw [el_lt _ ha hb, el_lt _ ha hb, h32, hd] at h
    exact h
  funext i
  rw [eq_ix2 i]
  refine (key _ _).trans ?_
  show refAct (refDot A B) _ = refAct (refDot A B) _
  congr 1
  funext x; apply Fin.ext
  match x with
  | ⟨0, _⟩ => show 64 * c.val + (i 0).val = c.val * 64 + (i 0).val; omega
  | ⟨1, _⟩ => rfl

end Cert.KernelIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Product
public import Idealize.ShloMosaic.Adequacy
public import Idealize.ShloMosaic.Init

@[expose] public section

noncomputable section

namespace Cert.Proof

open Idealize.ShloMosaic Idealize.SL.Sem Cert.Kernel

/-- The reference runs, its arguments unchanged; it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems rfl r.2⟩) (Cert.ReferenceIdeal.Value.run m g)

/-- From blocks of the reference's arguments, every device ends with its block of the reference's result. -/
theorem algebraic : Cert.algebraic_KernelIdeal_ReferenceIdeal (hKernelIdeal := Cert.KernelIdeal.Gen.facts) (hReferenceIdeal := Cert.ReferenceIdeal.Gen.facts) := by
  intro m g m' g' _ hargs
  refine ⟨Cert.KernelIdeal.Gen.refAct (Cert.KernelIdeal.Gen.refDot
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))), ?_, ?_⟩
  · refine (θ_run _ _ _).mono (fun r h c => ⟨(h c).1.trans ?_, (h c).2⟩) (Cert.KernelIdeal.Gen.run_value m g)
    exact Cert.KernelIdeal.Gen.oB_block _ _ _ _
      (fun e => (Cert.KernelIdeal.Gen.xOf_eq m e).trans (hargs e).1)
      (fun e => (Cert.KernelIdeal.Gen.wOf_eq m e).trans (hargs e).2) c
  · exact (θ_run _ _ _).mono (fun r h => h 0) (Cert.ReferenceIdeal.Value.run m' g')

theorem claim : Cert.Claim := ⟨Cert.Kernel.Gen.facts, Cert.KernelIdeal.Gen.facts, Cert.ReferenceIdeal.Gen.facts,
  fun m g _ => Cert.Kernel.Gen.run_frame m g, fun m g _ => Cert.KernelIdeal.Gen.run_frame m g, fun m g _ => frame_reference m g,
  trivial, algebraic⟩

end Cert.Proof

end
